-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S50000x128 : Shape := ⟨2, ![50000, 128]⟩
abbrev S320000 : Shape := ⟨1, ![320000]⟩
abbrev S10000x1 : Shape := ⟨2, ![10000, 1]⟩
abbrev S50000x1 : Shape := ⟨2, ![50000, 1]⟩
abbrev S4096 : Shape := ⟨1, ![4096]⟩
abbrev S320000x1 : Shape := ⟨2, ![320000, 1]⟩
abbrev S_ : Shape := ⟨0, ![]⟩
abbrev S1 : Shape := ⟨1, ![1]⟩
abbrev S1x1 : Shape := ⟨2, ![1, 1]⟩
abbrev S320000x128 : Shape := ⟨2, ![320000, 128]⟩
abbrev S10000x512 : Shape := ⟨2, ![10000, 512]⟩
abbrev S50000x512 : Shape := ⟨2, ![50000, 512]⟩
abbrev S4096x1 : Shape := ⟨2, ![4096, 1]⟩
abbrev S4096x512 : Shape := ⟨2, ![4096, 512]⟩
abbrev S1x4096 : Shape := ⟨2, ![1, 4096]⟩

abbrev nBuf : Space → Nat
  | .hbm => 283
  | .vmem => 6
  | .smem => 0
  | _ => 0

abbrev hbmTy0_0 (i : Nat) : BufTy := match i % 128 with
  | 0 => ⟨S10000x128, .f32⟩
  | 1 => ⟨S50000x128, .f32⟩
  | 2 => ⟨S320000, .f32⟩
  | 3 => ⟨S10000x1, .f32⟩
  | 4 => ⟨S50000x1, .f32⟩
  | 5 => ⟨S320000, .i32⟩
  | 6 => ⟨S320000, .i32⟩
  | 7 => ⟨S4096, .i32⟩
  | 8 => ⟨S4096, .i32⟩
  | 9 => ⟨S4096, .i32⟩
  | 10 => ⟨S320000x1, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S1, .i32⟩
  | 20 => ⟨S_, .i32⟩
  | 21 => ⟨S320000x1, .i32⟩
  | 22 => ⟨S320000x1, .i1⟩
  | 23 => ⟨S1x1, .i32⟩
  | 24 => ⟨S320000x1, .i32⟩
  | 25 => ⟨S320000x1, .i1⟩
  | 26 => ⟨S320000x1, .i1⟩
  | 27 => ⟨S_, .i1⟩
  | 28 => ⟨S320000, .i1⟩
  | 29 => ⟨S320000x128, .f32⟩
  | 30 => ⟨S320000x128, .i1⟩
  | 31 => ⟨S_, .f32⟩
  | 32 => ⟨S320000x128, .f32⟩
  | 33 => ⟨S320000x128, .f32⟩
  | 34 => ⟨S320000x128, .f32⟩
  | 35 => ⟨S320000x128, .f32⟩
  | 36 => ⟨S_, .f32⟩
  | 37 => ⟨S10000x128, .f32⟩
  | 38 => ⟨S320000x1, .i32⟩
  | 39 => ⟨S10000x128, .f32⟩
  | 40 => ⟨S10000x128, .f32⟩
  | 41 => ⟨S10000x128, .f32⟩
  | 42 => ⟨S10000x128, .f32⟩
  | 43 => ⟨S320000x1, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S1, .i32⟩
  | 53 => ⟨S_, .i32⟩
  | 54 => ⟨S320000x1, .i32⟩
  | 55 => ⟨S320000x1, .i1⟩
  | 56 => ⟨S1x1, .i32⟩
  | 57 => ⟨S320000x1, .i32⟩
  | 58 => ⟨S320000x1, .i1⟩
  | 59 => ⟨S320000x1, .i1⟩
  | 60 => ⟨S_, .i1⟩
  | 61 => ⟨S320000, .i1⟩
  | 62 => ⟨S320000x128, .f32⟩
  | 63 => ⟨S320000x128, .i1⟩
  | 64 => ⟨S_, .f32⟩
  | 65 => ⟨S320000x128, .f32⟩
  | 66 => ⟨S320000x128, .f32⟩
  | 67 => ⟨S320000x128, .f32⟩
  | 68 => ⟨S320000x128, .f32⟩
  | 69 => ⟨S_, .f32⟩
  | 70 => ⟨S50000x128, .f32⟩
  | 71 => ⟨S320000x1, .i32⟩
  | 72 => ⟨S50000x128, .f32⟩
  | 73 => ⟨S50000x128, .f32⟩
  | 74 => ⟨S50000x128, .f32⟩
  | 75 => ⟨S50000x128, .f32⟩
  | 76 => ⟨S320000x1, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S1, .i32⟩
  | 86 => ⟨S_, .i32⟩
  | 87 => ⟨S320000x1, .i32⟩
  | 88 => ⟨S320000x1, .i1⟩
  | 89 => ⟨S1x1, .i32⟩
  | 90 => ⟨S320000x1, .i32⟩
  | 91 => ⟨S320000x1, .i1⟩
  | 92 => ⟨S320000x1, .i1⟩
  | 93 => ⟨S_, .i1⟩
  | 94 => ⟨S320000, .i1⟩
  | 95 => ⟨S320000x128, .f32⟩
  | 96 => ⟨S320000x128, .i1⟩
  | 97 => ⟨S_, .f32⟩
  | 98 => ⟨S320000x128, .f32⟩
  | 99 => ⟨S320000x128, .f32⟩
  | 100 => ⟨S320000x128, .f32⟩
  | 101 => ⟨S320000x128, .f32⟩
  | 102 => ⟨S_, .f32⟩
  | 103 => ⟨S10000x128, .f32⟩
  | 104 => ⟨S320000x1, .i32⟩
  | 105 => ⟨S10000x128, .f32⟩
  | 106 => ⟨S10000x128, .f32⟩
  | 107 => ⟨S10000x128, .f32⟩
  | 108 => ⟨S10000x128, .f32⟩
  | 109 => ⟨S320000x1, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S1, .i32⟩
  | 119 => ⟨S_, .i32⟩
  | 120 => ⟨S320000x1, .i32⟩
  | 121 => ⟨S320000x1, .i1⟩
  | 122 => ⟨S1x1, .i32⟩
  | 123 => ⟨S320000x1, .i32⟩
  | 124 => ⟨S320000x1, .i1⟩
  | 125 => ⟨S320000x1, .i1⟩
  | 126 => ⟨S_, .i1⟩
  | 127 => ⟨S320000, .i1⟩
  | _ => ⟨S10000x128, .f32⟩

abbrev hbmTy0_1 (i : Nat) : BufTy := match i % 128 with
  | 0 => ⟨S320000x128, .f32⟩
  | 1 => ⟨S320000x128, .i1⟩
  | 2 => ⟨S_, .f32⟩
  | 3 => ⟨S320000x128, .f32⟩
  | 4 => ⟨S320000x128, .f32⟩
  | 5 => ⟨S320000x128, .f32⟩
  | 6 => ⟨S320000x128, .f32⟩
  | 7 => ⟨S_, .f32⟩
  | 8 => ⟨S50000x128, .f32⟩
  | 9 => ⟨S320000x1, .i32⟩
  | 10 => ⟨S50000x128, .f32⟩
  | 11 => ⟨S50000x128, .f32⟩
  | 12 => ⟨S50000x128, .f32⟩
  | 13 => ⟨S50000x128, .f32⟩
  | 14 => ⟨S320000x1, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S1, .i32⟩
  | 24 => ⟨S_, .i32⟩
  | 25 => ⟨S320000x1, .i32⟩
  | 26 => ⟨S320000x1, .i1⟩
  | 27 => ⟨S1x1, .i32⟩
  | 28 => ⟨S320000x1, .i32⟩
  | 29 => ⟨S320000x1, .i1⟩
  | 30 => ⟨S320000x1, .i1⟩
  | 31 => ⟨S_, .i1⟩
  | 32 => ⟨S320000, .i1⟩
  | 33 => ⟨S320000x128, .f32⟩
  | 34 => ⟨S320000x128, .i1⟩
  | 35 => ⟨S_, .f32⟩
  | 36 => ⟨S320000x128, .f32⟩
  | 37 => ⟨S320000x128, .f32⟩
  | 38 => ⟨S320000x128, .f32⟩
  | 39 => ⟨S320000x128, .f32⟩
  | 40 => ⟨S_, .f32⟩
  | 41 => ⟨S10000x128, .f32⟩
  | 42 => ⟨S320000x1, .i32⟩
  | 43 => ⟨S10000x128, .f32⟩
  | 44 => ⟨S10000x128, .f32⟩
  | 45 => ⟨S10000x128, .f32⟩
  | 46 => ⟨S10000x128, .f32⟩
  | 47 => ⟨S320000x1, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S1, .i32⟩
  | 57 => ⟨S_, .i32⟩
  | 58 => ⟨S320000x1, .i32⟩
  | 59 => ⟨S320000x1, .i1⟩
  | 60 => ⟨S1x1, .i32⟩
  | 61 => ⟨S320000x1, .i32⟩
  | 62 => ⟨S320000x1, .i1⟩
  | 63 => ⟨S320000x1, .i1⟩
  | 64 => ⟨S_, .i1⟩
  | 65 => ⟨S320000, .i1⟩
  | 66 => ⟨S320000x128, .f32⟩
  | 67 => ⟨S320000x128, .i1⟩
  | 68 => ⟨S_, .f32⟩
  | 69 => ⟨S320000x128, .f32⟩
  | 70 => ⟨S320000x128, .f32⟩
  | 71 => ⟨S320000x128, .f32⟩
  | 72 => ⟨S320000x128, .f32⟩
  | 73 => ⟨S_, .f32⟩
  | 74 => ⟨S50000x128, .f32⟩
  | 75 => ⟨S320000x1, .i32⟩
  | 76 => ⟨S50000x128, .f32⟩
  | 77 => ⟨S50000x128, .f32⟩
  | 78 => ⟨S50000x128, .f32⟩
  | 79 => ⟨S50000x128, .f32⟩
  | 80 => ⟨S10000x512, .f32⟩
  | 81 => ⟨S50000x512, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S1, .i32⟩
  | 91 => ⟨S_, .i32⟩
  | 92 => ⟨S4096x1, .i32⟩
  | 93 => ⟨S4096x1, .i1⟩
  | 94 => ⟨S1x1, .i32⟩
  | 95 => ⟨S4096x1, .i32⟩
  | 96 => ⟨S4096x1, .i1⟩
  | 97 => ⟨S4096x1, .i1⟩
  | 98 => ⟨S_, .i1⟩
  | 99 => ⟨S4096, .i1⟩
  | 100 => ⟨S4096x512, .f32⟩
  | 101 => ⟨S4096x512, .i1⟩
  | 102 => ⟨S_, .f32⟩
  | 103 => ⟨S4096x512, .f32⟩
  | 104 => ⟨S4096x512, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S1, .i32⟩
  | 114 => ⟨S_, .i32⟩
  | 115 => ⟨S4096x1, .i32⟩
  | 116 => ⟨S4096x1, .i1⟩
  | 117 => ⟨S1x1, .i32⟩
  | 118 => ⟨S4096x1, .i32⟩
  | 119 => ⟨S4096x1, .i1⟩
  | 120 => ⟨S4096x1, .i1⟩
  | 121 => ⟨S_, .i1⟩
  | 122 => ⟨S4096, .i1⟩
  | 123 => ⟨S4096x512, .f32⟩
  | 124 => ⟨S4096x512, .i1⟩
  | 125 => ⟨S_, .f32⟩
  | 126 => ⟨S4096x512, .f32⟩
  | 127 => ⟨S4096x512, .f32⟩
  | _ => ⟨S10000x128, .f32⟩

abbrev hbmTy0_2 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S1, .i32⟩
  | 9 => ⟨S_, .i32⟩
  | 10 => ⟨S4096x1, .i32⟩
  | 11 => ⟨S4096x1, .i1⟩
  | 12 => ⟨S1x1, .i32⟩
  | 13 => ⟨S4096x1, .i32⟩
  | 14 => ⟨S4096x1, .i1⟩
  | 15 => ⟨S4096x1, .i1⟩
  | 16 => ⟨S_, .i1⟩
  | 17 => ⟨S4096, .i1⟩
  | 18 => ⟨S4096x512, .f32⟩
  | 19 => ⟨S4096x512, .i1⟩
  | 20 => ⟨S_, .f32⟩
  | 21 => ⟨S4096x512, .f32⟩
  | 22 => ⟨S4096x512, .f32⟩
  | 23 => ⟨S4096, .f32⟩
  | 24 => ⟨S4096, .f32⟩
  | 25 => ⟨S1x1, .f32⟩
  | 26 => ⟨S_, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096, .f32⟩
  | .local _ .vmem, ⟨4, _⟩ => ⟨S4096, .f32⟩
  | .local _ .vmem, ⟨5, _⟩ => ⟨S1x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_cst_1 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_cst_2 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_c_1 : Ref sig .tc := ⟨.hbm, 151, rfl⟩
abbrev main_call4_c_2 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_c_3 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_call4_cst : Ref sig .tc := ⟨.hbm, 163, rfl⟩
abbrev main_call4_v15 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_cst_3 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_call5_c : Ref sig .tc := ⟨.hbm, 176, rfl⟩
abbrev main_call5_v0 : Ref sig .tc := ⟨.hbm, 177, rfl⟩
abbrev main_call5_v1 : Ref sig .tc := ⟨.hbm, 178, rfl⟩
abbrev main_call5_c_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_c_1 : Ref sig .tc := ⟨.hbm, 184, rfl⟩
abbrev main_call5_c_2 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_c_3 : Ref sig .tc := ⟨.hbm, 192, rfl⟩
abbrev main_call5_v12 : Ref sig .tc := ⟨.hbm, 193, rfl⟩
abbrev main_call5_v13 : Ref sig .tc := ⟨.hbm, 194, rfl⟩
abbrev main_call5_v14 : Ref sig .tc := ⟨.hbm, 195, rfl⟩
abbrev main_call5_cst : Ref sig .tc := ⟨.hbm, 196, rfl⟩
abbrev main_call5_v15 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_cst_4 : Ref sig .tc := ⟨.hbm, 201, rfl⟩
abbrev main_v54 : Ref sig .tc := ⟨.hbm, 202, rfl⟩
abbrev main_v55 : Ref sig .tc := ⟨.hbm, 203, rfl⟩
abbrev main_v56 : Ref sig .tc := ⟨.hbm, 204, rfl⟩
abbrev main_v57 : Ref sig .tc := ⟨.hbm, 205, rfl⟩
abbrev main_v58 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_call6_c : Ref sig .tc := ⟨.hbm, 210, rfl⟩
abbrev main_call6_v0 : Ref sig .tc := ⟨.hbm, 211, rfl⟩
abbrev main_call6_v1 : Ref sig .tc := ⟨.hbm, 212, rfl⟩
abbrev main_call6_c_0 : Ref sig .tc := ⟨.hbm, 213, rfl⟩
abbrev main_call6_v2 : Ref sig .tc := ⟨.hbm, 214, rfl⟩
abbrev main_call6_v3 : Ref sig .tc := ⟨.hbm, 215, rfl⟩
abbrev main_call6_v4 : Ref sig .tc := ⟨.hbm, 216, rfl⟩
abbrev main_call6_v5 : Ref sig .tc := ⟨.hbm, 217, rfl⟩
abbrev main_call6_c_1 : Ref sig .tc := ⟨.hbm, 218, rfl⟩
abbrev main_call6_c_2 : Ref sig .tc := ⟨.hbm, 219, rfl⟩
abbrev main_call6_v6 : Ref sig .tc := ⟨.hbm, 220, rfl⟩
abbrev main_call6_v7 : Ref sig .tc := ⟨.hbm, 221, rfl⟩
abbrev main_call6_v8 : Ref sig .tc := ⟨.hbm, 222, rfl⟩
abbrev main_call6_v9 : Ref sig .tc := ⟨.hbm, 223, rfl⟩
abbrev main_call6_v10 : Ref sig .tc := ⟨.hbm, 224, rfl⟩
abbrev main_call6_v11 : Ref sig .tc := ⟨.hbm, 225, rfl⟩
abbrev main_call6_c_3 : Ref sig .tc := ⟨.hbm, 226, rfl⟩
abbrev main_call6_v12 : Ref sig .tc := ⟨.hbm, 227, rfl⟩
abbrev main_call6_v13 : Ref sig .tc := ⟨.hbm, 228, rfl⟩
abbrev main_call6_v14 : Ref sig .tc := ⟨.hbm, 229, rfl⟩
abbrev main_call6_cst : Ref sig .tc := ⟨.hbm, 230, rfl⟩
abbrev main_call6_v15 : Ref sig .tc := ⟨.hbm, 231, rfl⟩
abbrev main_v62 : Ref sig .tc := ⟨.hbm, 232, rfl⟩
abbrev main_call7_c : Ref sig .tc := ⟨.hbm, 233, rfl⟩
abbrev main_call7_v0 : Ref sig .tc := ⟨.hbm, 234, rfl⟩
abbrev main_call7_v1 : Ref sig .tc := ⟨.hbm, 235, rfl⟩
abbrev main_call7_c_0 : Ref sig .tc := ⟨.hbm, 236, rfl⟩
abbrev main_call7_v2 : Ref sig .tc := ⟨.hbm, 237, rfl⟩
abbrev main_call7_v3 : Ref sig .tc := ⟨.hbm, 238, rfl⟩
abbrev main_call7_v4 : Ref sig .tc := ⟨.hbm, 239, rfl⟩
abbrev main_call7_v5 : Ref sig .tc := ⟨.hbm, 240, rfl⟩
abbrev main_call7_c_1 : Ref sig .tc := ⟨.hbm, 241, rfl⟩
abbrev main_call7_c_2 : Ref sig .tc := ⟨.hbm, 242, rfl⟩
abbrev main_call7_v6 : Ref sig .tc := ⟨.hbm, 243, rfl⟩
abbrev main_call7_v7 : Ref sig .tc := ⟨.hbm, 244, rfl⟩
abbrev main_call7_v8 : Ref sig .tc := ⟨.hbm, 245, rfl⟩
abbrev main_call7_v9 : Ref sig .tc := ⟨.hbm, 246, rfl⟩
abbrev main_call7_v10 : Ref sig .tc := ⟨.hbm, 247, rfl⟩
abbrev main_call7_v11 : Ref sig .tc := ⟨.hbm, 248, rfl⟩
abbrev main_call7_c_3 : Ref sig .tc := ⟨.hbm, 249, rfl⟩
abbrev main_call7_v12 : Ref sig .tc := ⟨.hbm, 250, rfl⟩
abbrev main_call7_v13 : Ref sig .tc := ⟨.hbm, 251, rfl⟩
abbrev main_call7_v14 : Ref sig .tc := ⟨.hbm, 252, rfl⟩
abbrev main_call7_cst : Ref sig .tc := ⟨.hbm, 253, rfl⟩
abbrev main_call7_v15 : Ref sig .tc := ⟨.hbm, 254, rfl⟩
abbrev main_v63 : Ref sig .tc := ⟨.hbm, 255, rfl⟩
abbrev main_call8_c : Ref sig .tc := ⟨.hbm, 256, rfl⟩
abbrev main_call8_v0 : Ref sig .tc := ⟨.hbm, 257, rfl⟩
abbrev main_call8_v1 : Ref sig .tc := ⟨.hbm, 258, rfl⟩
abbrev main_call8_c_0 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_call8_v5 : Ref sig .tc := ⟨.hbm, 263, rfl⟩
abbrev main_call8_c_1 : Ref sig .tc := ⟨.hbm, 264, rfl⟩
abbrev main_call8_c_2 : Ref sig .tc := ⟨.hbm, 265, rfl⟩
abbrev main_call8_v6 : Ref sig .tc := ⟨.hbm, 266, rfl⟩
abbrev main_call8_v7 : Ref sig .tc := ⟨.hbm, 267, rfl⟩
abbrev main_call8_v8 : Ref sig .tc := ⟨.hbm, 268, rfl⟩
abbrev main_call8_v9 : Ref sig .tc := ⟨.hbm, 269, rfl⟩
abbrev main_call8_v10 : Ref sig .tc := ⟨.hbm, 270, rfl⟩
abbrev main_call8_v11 : Ref sig .tc := ⟨.hbm, 271, rfl⟩
abbrev main_call8_c_3 : Ref sig .tc := ⟨.hbm, 272, rfl⟩
abbrev main_call8_v12 : Ref sig .tc := ⟨.hbm, 273, rfl⟩
abbrev main_call8_v13 : Ref sig .tc := ⟨.hbm, 274, rfl⟩
abbrev main_call8_v14 : Ref sig .tc := ⟨.hbm, 275, rfl⟩
abbrev main_call8_cst : Ref sig .tc := ⟨.hbm, 276, rfl⟩
abbrev main_call8_v15 : Ref sig .tc := ⟨.hbm, 277, rfl⟩
abbrev main_v64 : Ref sig .tc := ⟨.hbm, 278, rfl⟩
abbrev main_v65_0 : Ref sig .tc := ⟨.hbm, 279, rfl⟩
abbrev main_v65_1 : Ref sig .tc := ⟨.hbm, 280, rfl⟩
abbrev main_v65_2 : Ref sig .tc := ⟨.hbm, 281, rfl⟩
abbrev main_v66 : Ref sig .tc := ⟨.hbm, 282, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S10000x128 : Shape := ⟨2, ![10000, 128]⟩
abbrev S50000x128 : Shape := ⟨2, ![50000, 128]⟩
abbrev S320000 : Shape := ⟨1, ![320000]⟩
abbrev S10000x1 : Shape := ⟨2, ![10000, 1]⟩
abbrev S50000x1 : Shape := ⟨2, ![50000, 1]⟩
abbrev S4096 : Shape := ⟨1, ![4096]⟩
abbrev S320000x1 : Shape := ⟨2, ![320000, 1]⟩
abbrev S_ : Shape := ⟨0, ![]⟩
abbrev S1 : Shape := ⟨1, ![1]⟩
abbrev S1x1 : Shape := ⟨2, ![1, 1]⟩
abbrev S320000x128 : Shape := ⟨2, ![320000, 128]⟩
abbrev S10000x512 : Shape := ⟨2, ![10000, 512]⟩
abbrev S50000x512 : Shape := ⟨2, ![50000, 512]⟩
abbrev S4096x1 : Shape := ⟨2, ![4096, 1]⟩
abbrev S4096x512 : Shape := ⟨2, ![4096, 512]⟩

abbrev nBuf : Space → Nat
  | .hbm => 315
  | .vmem => 0
  | .smem => 0
  | _ => 0

abbrev hbmTy0_0 (i : Nat) : BufTy := match i % 128 with
  | 0 => ⟨S10000x128, .f32⟩
  | 1 => ⟨S50000x128, .f32⟩
  | 2 => ⟨S320000, .f32⟩
  | 3 => ⟨S10000x1, .f32⟩
  | 4 => ⟨S50000x1, .f32⟩
  | 5 => ⟨S320000, .i32⟩
  | 6 => ⟨S320000, .i32⟩
  | 7 => ⟨S4096, .i32⟩
  | 8 => ⟨S4096, .i32⟩
  | 9 => ⟨S4096, .i32⟩
  | 10 => ⟨S320000x1, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S1, .i32⟩
  | 20 => ⟨S_, .i32⟩
  | 21 => ⟨S320000x1, .i32⟩
  | 22 => ⟨S320000x1, .i1⟩
  | 23 => ⟨S1x1, .i32⟩
  | 24 => ⟨S320000x1, .i32⟩
  | 25 => ⟨S320000x1, .i1⟩
  | 26 => ⟨S320000x1, .i1⟩
  | 27 => ⟨S_, .i1⟩
  | 28 => ⟨S320000, .i1⟩
  | 29 => ⟨S320000x128, .f32⟩
  | 30 => ⟨S320000x128, .i1⟩
  | 31 => ⟨S_, .f32⟩
  | 32 => ⟨S320000x128, .f32⟩
  | 33 => ⟨S320000x128, .f32⟩
  | 34 => ⟨S320000x128, .f32⟩
  | 35 => ⟨S320000x128, .f32⟩
  | 36 => ⟨S_, .f32⟩
  | 37 => ⟨S10000x128, .f32⟩
  | 38 => ⟨S320000x1, .i32⟩
  | 39 => ⟨S10000x128, .f32⟩
  | 40 => ⟨S10000x128, .f32⟩
  | 41 => ⟨S10000x128, .f32⟩
  | 42 => ⟨S10000x128, .f32⟩
  | 43 => ⟨S320000x1, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S1, .i32⟩
  | 53 => ⟨S_, .i32⟩
  | 54 => ⟨S320000x1, .i32⟩
  | 55 => ⟨S320000x1, .i1⟩
  | 56 => ⟨S1x1, .i32⟩
  | 57 => ⟨S320000x1, .i32⟩
  | 58 => ⟨S320000x1, .i1⟩
  | 59 => ⟨S320000x1, .i1⟩
  | 60 => ⟨S_, .i1⟩
  | 61 => ⟨S320000, .i1⟩
  | 62 => ⟨S320000x128, .f32⟩
  | 63 => ⟨S320000x128, .i1⟩
  | 64 => ⟨S_, .f32⟩
  | 65 => ⟨S320000x128, .f32⟩
  | 66 => ⟨S320000x128, .f32⟩
  | 67 => ⟨S320000x128, .f32⟩
  | 68 => ⟨S320000x128, .f32⟩
  | 69 => ⟨S_, .f32⟩
  | 70 => ⟨S50000x128, .f32⟩
  | 71 => ⟨S320000x1, .i32⟩
  | 72 => ⟨S50000x128, .f32⟩
  | 73 => ⟨S50000x128, .f32⟩
  | 74 => ⟨S50000x128, .f32⟩
  | 75 => ⟨S50000x128, .f32⟩
  | 76 => ⟨S320000x1, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S1, .i32⟩
  | 86 => ⟨S_, .i32⟩
  | 87 => ⟨S320000x1, .i32⟩
  | 88 => ⟨S320000x1, .i1⟩
  | 89 => ⟨S1x1, .i32⟩
  | 90 => ⟨S320000x1, .i32⟩
  | 91 => ⟨S320000x1, .i1⟩
  | 92 => ⟨S320000x1, .i1⟩
  | 93 => ⟨S_, .i1⟩
  | 94 => ⟨S320000, .i1⟩
  | 95 => ⟨S320000x128, .f32⟩
  | 96 => ⟨S320000x128, .i1⟩
  | 97 => ⟨S_, .f32⟩
  | 98 => ⟨S320000x128, .f32⟩
  | 99 => ⟨S320000x128, .f32⟩
  | 100 => ⟨S320000x128, .f32⟩
  | 101 => ⟨S320000x128, .f32⟩
  | 102 => ⟨S_, .f32⟩
  | 103 => ⟨S10000x128, .f32⟩
  | 104 => ⟨S320000x1, .i32⟩
  | 105 => ⟨S10000x128, .f32⟩
  | 106 => ⟨S10000x128, .f32⟩
  | 107 => ⟨S10000x128, .f32⟩
  | 108 => ⟨S10000x128, .f32⟩
  | 109 => ⟨S320000x1, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S1, .i32⟩
  | 119 => ⟨S_, .i32⟩
  | 120 => ⟨S320000x1, .i32⟩
  | 121 => ⟨S320000x1, .i1⟩
  | 122 => ⟨S1x1, .i32⟩
  | 123 => ⟨S320000x1, .i32⟩
  | 124 => ⟨S320000x1, .i1⟩
  | 125 => ⟨S320000x1, .i1⟩
  | 126 => ⟨S_, .i1⟩
  | 127 => ⟨S320000, .i1⟩
  | _ => ⟨S10000x128, .f32⟩

abbrev hbmTy0_1 (i : Nat) : BufTy := match i % 128 with
  | 0 => ⟨S320000x128, .f32⟩
  | 1 => ⟨S320000x128, .i1⟩
  | 2 => ⟨S_, .f32⟩
  | 3 => ⟨S320000x128, .f32⟩
  | 4 => ⟨S320000x128, .f32⟩
  | 5 => ⟨S320000x128, .f32⟩
  | 6 => ⟨S320000x128, .f32⟩
  | 7 => ⟨S_, .f32⟩
  | 8 => ⟨S50000x128, .f32⟩
  | 9 => ⟨S320000x1, .i32⟩
  | 10 => ⟨S50000x128, .f32⟩
  | 11 => ⟨S50000x128, .f32⟩
  | 12 => ⟨S50000x128, .f32⟩
  | 13 => ⟨S50000x128, .f32⟩
  | 14 => ⟨S320000x1, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S1, .i32⟩
  | 24 => ⟨S_, .i32⟩
  | 25 => ⟨S320000x1, .i32⟩
  | 26 => ⟨S320000x1, .i1⟩
  | 27 => ⟨S1x1, .i32⟩
  | 28 => ⟨S320000x1, .i32⟩
  | 29 => ⟨S320000x1, .i1⟩
  | 30 => ⟨S320000x1, .i1⟩
  | 31 => ⟨S_, .i1⟩
  | 32 => ⟨S320000, .i1⟩
  | 33 => ⟨S320000x128, .f32⟩
  | 34 => ⟨S320000x128, .i1⟩
  | 35 => ⟨S_, .f32⟩
  | 36 => ⟨S320000x128, .f32⟩
  | 37 => ⟨S320000x128, .f32⟩
  | 38 => ⟨S320000x128, .f32⟩
  | 39 => ⟨S320000x128, .f32⟩
  | 40 => ⟨S_, .f32⟩
  | 41 => ⟨S10000x128, .f32⟩
  | 42 => ⟨S320000x1, .i32⟩
  | 43 => ⟨S10000x128, .f32⟩
  | 44 => ⟨S10000x128, .f32⟩
  | 45 => ⟨S10000x128, .f32⟩
  | 46 => ⟨S10000x128, .f32⟩
  | 47 => ⟨S320000x1, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S1, .i32⟩
  | 57 => ⟨S_, .i32⟩
  | 58 => ⟨S320000x1, .i32⟩
  | 59 => ⟨S320000x1, .i1⟩
  | 60 => ⟨S1x1, .i32⟩
  | 61 => ⟨S320000x1, .i32⟩
  | 62 => ⟨S320000x1, .i1⟩
  | 63 => ⟨S320000x1, .i1⟩
  | 64 => ⟨S_, .i1⟩
  | 65 => ⟨S320000, .i1⟩
  | 66 => ⟨S320000x128, .f32⟩
  | 67 => ⟨S320000x128, .i1⟩
  | 68 => ⟨S_, .f32⟩
  | 69 => ⟨S320000x128, .f32⟩
  | 70 => ⟨S320000x128, .f32⟩
  | 71 => ⟨S320000x128, .f32⟩
  | 72 => ⟨S320000x128, .f32⟩
  | 73 => ⟨S_, .f32⟩
  | 74 => ⟨S50000x128, .f32⟩
  | 75 => ⟨S320000x1, .i32⟩
  | 76 => ⟨S50000x128, .f32⟩
  | 77 => ⟨S50000x128, .f32⟩
  | 78 => ⟨S50000x128, .f32⟩
  | 79 => ⟨S50000x128, .f32⟩
  | 80 => ⟨S10000x512, .f32⟩
  | 81 => ⟨S50000x512, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S1, .i32⟩
  | 91 => ⟨S_, .i32⟩
  | 92 => ⟨S4096x1, .i32⟩
  | 93 => ⟨S4096x1, .i1⟩
  | 94 => ⟨S1x1, .i32⟩
  | 95 => ⟨S4096x1, .i32⟩
  | 96 => ⟨S4096x1, .i1⟩
  | 97 => ⟨S4096x1, .i1⟩
  | 98 => ⟨S_, .i1⟩
  | 99 => ⟨S4096, .i1⟩
  | 100 => ⟨S4096x512, .f32⟩
  | 101 => ⟨S4096x512, .i1⟩
  | 102 => ⟨S_, .f32⟩
  | 103 => ⟨S4096x512, .f32⟩
  | 104 => ⟨S4096x512, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S1, .i32⟩
  | 114 => ⟨S_, .i32⟩
  | 115 => ⟨S4096x1, .i32⟩
  | 116 => ⟨S4096x1, .i1⟩
  | 117 => ⟨S1x1, .i32⟩
  | 118 => ⟨S4096x1, .i32⟩
  | 119 => ⟨S4096x1, .i1⟩
  | 120 => ⟨S4096x1, .i1⟩
  | 121 => ⟨S_, .i1⟩
  | 122 => ⟨S4096, .i1⟩
  | 123 => ⟨S4096x512, .f32⟩
  | 124 => ⟨S4096x512, .i1⟩
  | 125 => ⟨S_, .f32⟩
  | 126 => ⟨S4096x512, .f32⟩
  | 127 => ⟨S4096x512, .f32⟩
  | _ => ⟨S10000x128, .f32⟩

abbrev hbmTy0_2 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S1, .i32⟩
  | 9 => ⟨S_, .i32⟩
  | 10 => ⟨S4096x1, .i32⟩
  | 11 => ⟨S4096x1, .i1⟩
  | 12 => ⟨S1x1, .i32⟩
  | 13 => ⟨S4096x1, .i32⟩
  | 14 => ⟨S4096x1, .i1⟩
  | 15 => ⟨S4096x1, .i1⟩
  | 16 => ⟨S_, .i1⟩
  | 17 => ⟨S4096, .i1⟩
  | 18 => ⟨S4096x512, .f32⟩
  | 19 => ⟨S4096x512, .i1⟩
  | 20 => ⟨S_, .f32⟩
  | 21 => ⟨S4096x512, .f32⟩
  | 22 => ⟨S4096x512, .f32⟩
  | 23 => ⟨S4096x512, .f32⟩
  | 24 => ⟨S_, .f32⟩
  | 25 => ⟨S4096, .f32⟩
  | 26 => ⟨S4096x512, .f32⟩
  | 27 => ⟨S_, .f32⟩
  | 28 => ⟨S4096, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S4096, .f32⟩
  | 36 => ⟨S_, .f32⟩
  | 37 => ⟨S4096, .f32⟩
  | 38 => ⟨S4096, .f32⟩
  | 39 => ⟨S4096, .f32⟩
  | 40 => ⟨S4096, .f32⟩
  | 41 => ⟨S4096, .f32⟩
  | 42 => ⟨S_, .f32⟩
  | 43 => ⟨S4096, .f32⟩
  | 44 => ⟨S4096, .f32⟩
  | 45 => ⟨S_, .f32⟩
  | 46 => ⟨S4096, .f32⟩
  | 47 => ⟨S4096, .f32⟩
  | 48 => ⟨S4096, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_cst_1 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_cst_2 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_c_1 : Ref sig .tc := ⟨.hbm, 151, rfl⟩
abbrev main_call4_c_2 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_c_3 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_call4_cst : Ref sig .tc := ⟨.hbm, 163, rfl⟩
abbrev main_call4_v15 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_cst_3 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_call5_c : Ref sig .tc := ⟨.hbm, 176, rfl⟩
abbrev main_call5_v0 : Ref sig .tc := ⟨.hbm, 177, rfl⟩
abbrev main_call5_v1 : Ref sig .tc := ⟨.hbm, 178, rfl⟩
abbrev main_call5_c_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_c_1 : Ref sig .tc := ⟨.hbm, 184, rfl⟩
abbrev main_call5_c_2 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_c_3 : Ref sig .tc := ⟨.hbm, 192, rfl⟩
abbrev main_call5_v12 : Ref sig .tc := ⟨.hbm, 193, rfl⟩
abbrev main_call5_v13 : Ref sig .tc := ⟨.hbm, 194, rfl⟩
abbrev main_call5_v14 : Ref sig .tc := ⟨.hbm, 195, rfl⟩
abbrev main_call5_cst : Ref sig .tc := ⟨.hbm, 196, rfl⟩
abbrev main_call5_v15 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_cst_4 : Ref sig .tc := ⟨.hbm, 201, rfl⟩
abbrev main_v54 : Ref sig .tc := ⟨.hbm, 202, rfl⟩
abbrev main_v55 : Ref sig .tc := ⟨.hbm, 203, rfl⟩
abbrev main_v56 : Ref sig .tc := ⟨.hbm, 204, rfl⟩
abbrev main_v57 : Ref sig .tc := ⟨.hbm, 205, rfl⟩
abbrev main_v58 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_call6_c : Ref sig .tc := ⟨.hbm, 210, rfl⟩
abbrev main_call6_v0 : Ref sig .tc := ⟨.hbm, 211, rfl⟩
abbrev main_call6_v1 : Ref sig .tc := ⟨.hbm, 212, rfl⟩
abbrev main_call6_c_0 : Ref sig .tc := ⟨.hbm, 213, rfl⟩
abbrev main_call6_v2 : Ref sig .tc := ⟨.hbm, 214, rfl⟩
abbrev main_call6_v3 : Ref sig .tc := ⟨.hbm, 215, rfl⟩
abbrev main_call6_v4 : Ref sig .tc := ⟨.hbm, 216, rfl⟩
abbrev main_call6_v5 : Ref sig .tc := ⟨.hbm, 217, rfl⟩
abbrev main_call6_c_1 : Ref sig .tc := ⟨.hbm, 218, rfl⟩
abbrev main_call6_c_2 : Ref sig .tc := ⟨.hbm, 219, rfl⟩
abbrev main_call6_v6 : Ref sig .tc := ⟨.hbm, 220, rfl⟩
abbrev main_call6_v7 : Ref sig .tc := ⟨.hbm, 221, rfl⟩
abbrev main_call6_v8 : Ref sig .tc := ⟨.hbm, 222, rfl⟩
abbrev main_call6_v9 : Ref sig .tc := ⟨.hbm, 223, rfl⟩
abbrev main_call6_v10 : Ref sig .tc := ⟨.hbm, 224, rfl⟩
abbrev main_call6_v11 : Ref sig .tc := ⟨.hbm, 225, rfl⟩
abbrev main_call6_c_3 : Ref sig .tc := ⟨.hbm, 226, rfl⟩
abbrev main_call6_v12 : Ref sig .tc := ⟨.hbm, 227, rfl⟩
abbrev main_call6_v13 : Ref sig .tc := ⟨.hbm, 228, rfl⟩
abbrev main_call6_v14 : Ref sig .tc := ⟨.hbm, 229, rfl⟩
abbrev main_call6_cst : Ref sig .tc := ⟨.hbm, 230, rfl⟩
abbrev main_call6_v15 : Ref sig .tc := ⟨.hbm, 231, rfl⟩
abbrev main_v62 : Ref sig .tc := ⟨.hbm, 232, rfl⟩
abbrev main_call7_c : Ref sig .tc := ⟨.hbm, 233, rfl⟩
abbrev main_call7_v0 : Ref sig .tc := ⟨.hbm, 234, rfl⟩
abbrev main_call7_v1 : Ref sig .tc := ⟨.hbm, 235, rfl⟩
abbrev main_call7_c_0 : Ref sig .tc := ⟨.hbm, 236, rfl⟩
abbrev main_call7_v2 : Ref sig .tc := ⟨.hbm, 237, rfl⟩
abbrev main_call7_v3 : Ref sig .tc := ⟨.hbm, 238, rfl⟩
abbrev main_call7_v4 : Ref sig .tc := ⟨.hbm, 239, rfl⟩
abbrev main_call7_v5 : Ref sig .tc := ⟨.hbm, 240, rfl⟩
abbrev main_call7_c_1 : Ref sig .tc := ⟨.hbm, 241, rfl⟩
abbrev main_call7_c_2 : Ref sig .tc := ⟨.hbm, 242, rfl⟩
abbrev main_call7_v6 : Ref sig .tc := ⟨.hbm, 243, rfl⟩
abbrev main_call7_v7 : Ref sig .tc := ⟨.hbm, 244, rfl⟩
abbrev main_call7_v8 : Ref sig .tc := ⟨.hbm, 245, rfl⟩
abbrev main_call7_v9 : Ref sig .tc := ⟨.hbm, 246, rfl⟩
abbrev main_call7_v10 : Ref sig .tc := ⟨.hbm, 247, rfl⟩
abbrev main_call7_v11 : Ref sig .tc := ⟨.hbm, 248, rfl⟩
abbrev main_call7_c_3 : Ref sig .tc := ⟨.hbm, 249, rfl⟩
abbrev main_call7_v12 : Ref sig .tc := ⟨.hbm, 250, rfl⟩
abbrev main_call7_v13 : Ref sig .tc := ⟨.hbm, 251, rfl⟩
abbrev main_call7_v14 : Ref sig .tc := ⟨.hbm, 252, rfl⟩
abbrev main_call7_cst : Ref sig .tc := ⟨.hbm, 253, rfl⟩
abbrev main_call7_v15 : Ref sig .tc := ⟨.hbm, 254, rfl⟩
abbrev main_v63 : Ref sig .tc := ⟨.hbm, 255, rfl⟩
abbrev main_call8_c : Ref sig .tc := ⟨.hbm, 256, rfl⟩
abbrev main_call8_v0 : Ref sig .tc := ⟨.hbm, 257, rfl⟩
abbrev main_call8_v1 : Ref sig .tc := ⟨.hbm, 258, rfl⟩
abbrev main_call8_c_0 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_call8_v5 : Ref sig .tc := ⟨.hbm, 263, rfl⟩
abbrev main_call8_c_1 : Ref sig .tc := ⟨.hbm, 264, rfl⟩
abbrev main_call8_c_2 : Ref sig .tc := ⟨.hbm, 265, rfl⟩
abbrev main_call8_v6 : Ref sig .tc := ⟨.hbm, 266, rfl⟩
abbrev main_call8_v7 : Ref sig .tc := ⟨.hbm, 267, rfl⟩
abbrev main_call8_v8 : Ref sig .tc := ⟨.hbm, 268, rfl⟩
abbrev main_call8_v9 : Ref sig .tc := ⟨.hbm, 269, rfl⟩
abbrev main_call8_v10 : Ref sig .tc := ⟨.hbm, 270, rfl⟩
abbrev main_call8_v11 : Ref sig .tc := ⟨.hbm, 271, rfl⟩
abbrev main_call8_c_3 : Ref sig .tc := ⟨.hbm, 272, rfl⟩
abbrev main_call8_v12 : Ref sig .tc := ⟨.hbm, 273, rfl⟩
abbrev main_call8_v13 : Ref sig .tc := ⟨.hbm, 274, rfl⟩
abbrev main_call8_v14 : Ref sig .tc := ⟨.hbm, 275, rfl⟩
abbrev main_call8_cst : Ref sig .tc := ⟨.hbm, 276, rfl⟩
abbrev main_call8_v15 : Ref sig .tc := ⟨.hbm, 277, rfl⟩
abbrev main_v64 : Ref sig .tc := ⟨.hbm, 278, rfl⟩
abbrev main_v65 : Ref sig .tc := ⟨.hbm, 279, rfl⟩
abbrev main_cst_5 : Ref sig .tc := ⟨.hbm, 280, rfl⟩
abbrev main_v66 : Ref sig .tc := ⟨.hbm, 281, rfl⟩
abbrev main_v67 : Ref sig .tc := ⟨.hbm, 282, rfl⟩
abbrev main_cst_6 : Ref sig .tc := ⟨.hbm, 283, rfl⟩
abbrev main_v68 : Ref sig .tc := ⟨.hbm, 284, rfl⟩
abbrev main_v69 : Ref sig .tc := ⟨.hbm, 285, rfl⟩
abbrev main_v70 : Ref sig .tc := ⟨.hbm, 286, rfl⟩
abbrev main_v71 : Ref sig .tc := ⟨.hbm, 287, rfl⟩
abbrev main_v72 : Ref sig .tc := ⟨.hbm, 288, rfl⟩
abbrev main_v73 : Ref sig .tc := ⟨.hbm, 289, rfl⟩
abbrev main_cst_7 : Ref sig .tc := ⟨.hbm, 290, rfl⟩
abbrev main_v74 : Ref sig .tc := ⟨.hbm, 291, rfl⟩
abbrev main_cst_8 : Ref sig .tc := ⟨.hbm, 292, rfl⟩
abbrev main_v75 : Ref sig .tc := ⟨.hbm, 293, rfl⟩
abbrev main_v76 : Ref sig .tc := ⟨.hbm, 294, rfl⟩
abbrev main_v77 : Ref sig .tc := ⟨.hbm, 295, rfl⟩
abbrev main_v78 : Ref sig .tc := ⟨.hbm, 296, rfl⟩
abbrev main_v79 : Ref sig .tc := ⟨.hbm, 297, rfl⟩
abbrev main_cst_9 : Ref sig .tc := ⟨.hbm, 298, rfl⟩
abbrev main_v80 : Ref sig .tc := ⟨.hbm, 299, rfl⟩
abbrev main_v81 : Ref sig .tc := ⟨.hbm, 300, rfl⟩
abbrev main_cst_10 : Ref sig .tc := ⟨.hbm, 301, rfl⟩
abbrev main_v82 : Ref sig .tc := ⟨.hbm, 302, rfl⟩
abbrev main_v83 : Ref sig .tc := ⟨.hbm, 303, rfl⟩
abbrev main_v84 : Ref sig .tc := ⟨.hbm, 304, rfl⟩
abbrev main_cst_11 : Ref sig .tc := ⟨.hbm, 305, rfl⟩
abbrev main_v85 : Ref sig .tc := ⟨.hbm, 306, rfl⟩
abbrev main_cst_12 : Ref sig .tc := ⟨.hbm, 307, rfl⟩
abbrev main_v86 : Ref sig .tc := ⟨.hbm, 308, rfl⟩
abbrev main_v87 : Ref sig .tc := ⟨.hbm, 309, rfl⟩
abbrev main_cst_13 : Ref sig .tc := ⟨.hbm, 310, rfl⟩
abbrev main_v88 : Ref sig .tc := ⟨.hbm, 311, rfl⟩
abbrev main_cst_14 : Ref sig .tc := ⟨.hbm, 312, rfl⟩
abbrev main_v89 : Ref sig .tc := ⟨.hbm, 313, rfl⟩
abbrev main_v90 : Ref sig .tc := ⟨.hbm, 314, rfl⟩

abbrev nD : Nat := 1
abbrev τ : Topo := Topo.v7x

variable {F : FTy → Type} [FloatOps F]
-- ==== Proof.HostKeeps.lean ====
/- What each line of the kernel's host operations leaves alone. The host half of the kernel runs sixteen lines one after
   another; for each the references it writes are listed, and a reference outside the list keeps its contents. -/
module

public import proofs.«01_k».proof.Proof.Gen.KernelIdeal.Launch

@[expose] public section

set_option maxRecDepth 8192

noncomputable section

namespace Cert.Proof

open Idealize.ShloMosaic Idealize.ShloMosaic.StableHlo Idealize.ShloMosaic.TcCoe Cert.KernelIdeal Cert.KernelIdeal.Gen

variable {F : FTy → Type} [FloatOps F] (V : Valuation τ sig (Elt F)) {r : Ref sig .tc}

/-- What line 0 writes, in order. -/
abbrev written0 : List (Ref sig .tc) :=
  [main_v0]

/-- Line 0 keeps every other reference. -/
theorem keeps0 (hr : r ∉ written0) : after hostOps0 V (no_index (Proc.devRef .tc r)) = V (Proc.devRef .tc r) :=
  after_of_writes_sub _ V (forall_writes_sub_of_map rfl) hr

/-- What line 1 writes, in order. -/
abbrev written1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v1]

/-- Line 1 keeps every other reference. -/
theorem keeps1 (hr : r ∉ written1) : after hostOps0_1 V (no_index (Proc.devRef .tc r)) = V (Proc.devRef .tc r) :=
  after_of_writes_sub _ V (forall_writes_sub_of_map rfl) hr

/-- What line 2 writes, in order. -/
abbrev written2 : List (Ref sig .tc) :=
  [main_v2, main_v3, main_cst, main_v4, main_v5, main_v6, main_v7, main_v8, main_v9, main_v10]

/-- Line 2 keeps every other reference. -/
theorem keeps2 (hr : r ∉ written2) : after hostOps0_2 V (no_index (Proc.devRef .tc r)) = V (Proc.devRef .tc r) :=
  after_of_writes_sub _ V (forall_writes_sub_of_map rfl) hr

/-- What line 3 writes, in order. -/
abbrev written3 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v11]

/-- Line 3 keeps every other reference. -/
theorem keeps3 (hr : r ∉ written3) : after hostOps0_3 V (no_index (Proc.devRef .tc r)) = V (Proc.devRef .tc r) :=
  after_of_writes_sub _ V (forall_writes_sub_of_map rfl) hr

/-- What line 4 writes, in order. -/
abbrev written4 : List (Ref sig .tc) :=
  [main_v12, main_v13, main_cst_0, main_v14, main_v15, main_v16, main_v17, main_v18, main_v19, main_v20]

/-- Line 4 keeps every other reference. -/
theorem keeps4 (hr : r ∉ written4) : after hostOps0_4 V (no_index (Proc.devRef .tc r)) = V (Proc.devRef .tc r) :=
  after_of_writes_sub _ V (forall_writes_sub_of_map rfl) hr

/-- What line 5 writes, in order. -/
abbrev written5 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v21]

/-- Line 5 keeps every other reference. -/
theorem keeps5 (hr : r ∉ written5) : after hostOps0_5 V (no_index (Proc.devRef .tc r)) = V (Proc.devRef .tc r) :=
  after_of_writes_sub _ V (forall_writes_sub_of_map rfl) hr

/-- What line 6 writes, in order. -/
abbrev written6 : List (Ref sig .tc) :=
  [main_v22, main_v23, main_cst_1, main_v24, main_v25, main_v26, main_v27, main_v28, main_v29, main_v30]

/-- Line 6 keeps every other reference. -/
theorem keeps6 (hr : r ∉ written6) : after hostOps0_6 V (no_index (Proc.devRef .tc r)) = V (Proc.devRef .tc r) :=
  after_of_writes_sub _ V (forall_writes_sub_of_map rfl) hr

/-- What line 7 writes, in order. -/
abbrev written7 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v31]

/-- Line 7 keeps every other reference. -/
theorem keeps7 (hr : r ∉ written7) : after hostOps0_7 V (no_index (Proc.devRef .tc r)) = V (Proc.devRef .tc r) :=
  after_of_writes_sub _ V (forall_writes_sub_of_map rfl) hr

/-- What line 8 writes, in order. -/
abbrev written8 : List (Ref sig .tc) :=
  [main_v32, main_v33, main_cst_2, main_v34, main_v35, main_v36, main_v37, main_v38, main_v39, main_v40]

/-- Line 8 keeps every other reference. -/
theorem keeps8 (hr : r ∉ written8) : after hostOps0_8 V (no_index (Proc.devRef .tc r)) = V (Proc.devRef .tc r) :=
  after_of_writes_sub _ V (forall_writes_sub_of_map rfl) hr

/-- What line 9 writes, in order. -/
abbrev written9 : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v41]

/-- Line 9 keeps every other reference. -/
theorem keeps9 (hr : r ∉ written9) : after hostOps0_9 V (no_index (Proc.devRef .tc r)) = V (Proc.devRef .tc r) :=
  after_of_writes_sub _ V (forall_writes_sub_of_map rfl) hr

/-- What line 10 writes, in order. -/
abbrev written10 : List (Ref sig .tc) :=
  [main_v42, main_v43, main_cst_3, main_v44, main_v45, main_v46, main_v47, main_v48, main_v49, main_v50]

/-- Line 10 keeps every other reference. -/
theorem keeps10 (hr : r ∉ written10) : after hostOps0_10 V (no_index (Proc.devRef .tc r)) = V (Proc.devRef .tc r) :=
  after_of_writes_sub _ V (forall_writes_sub_of_map rfl) hr

/-- What line 11 writes, in order. -/
abbrev written11 : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14, main_call5_cst,
   main_call5_v15, main_v51]

/-- Line 11 keeps every other reference. -/
theorem keeps11 (hr : r ∉ written11) : after hostOps0_11 V (no_index (Proc.devRef .tc r)) = V (Proc.devRef .tc r) :=
  after_of_writes_sub _ V (forall_writes_sub_of_map rfl) hr

/-- What line 12 writes, in order. -/
abbrev written12 : List (Ref sig .tc) :=
  [main_v52, main_v53, main_cst_4, main_v54, main_v55, main_v56, main_v57, main_v58, main_v59, main_v60, main_v61]

/-- Line 12 keeps every other reference. -/
theorem keeps12 (hr : r ∉ written12) : after hostOps0_12 V (no_index (Proc.devRef .tc r)) = V (Proc.devRef .tc r) :=
  after_of_writes_sub _ V (forall_writes_sub_of_map rfl) hr

/-- What line 13 writes, in order. -/
abbrev written13 : List (Ref sig .tc) :=
  [main_call6_c, main_call6_v0, main_call6_v1, main_call6_c_0, main_call6_v2, main_call6_v3, main_call6_v4,
   main_call6_v5, main_call6_c_1, main_call6_c_2, main_call6_v6, main_call6_v7, main_call6_v8, main_call6_v9,
   main_call6_v10, main_call6_v11, main_call6_c_3, main_call6_v12, main_call6_v13, main_call6_v14, main_call6_cst,
   main_call6_v15, main_v62]

/-- Line 13 keeps every other reference. -/
theorem keeps13 (hr : r ∉ written13) : after hostOps0_13 V (no_index (Proc.devRef .tc r)) = V (Proc.devRef .tc r) :=
  after_of_writes_sub _ V (forall_writes_sub_of_map rfl) hr

/-- What line 14 writes, in order. -/
abbrev written14 : List (Ref sig .tc) :=
  [main_call7_c, main_call7_v0, main_call7_v1, main_call7_c_0, main_call7_v2, main_call7_v3, main_call7_v4,
   main_call7_v5, main_call7_c_1, main_call7_c_2, main_call7_v6, main_call7_v7, main_call7_v8, main_call7_v9,
   main_call7_v10, main_call7_v11, main_call7_c_3, main_call7_v12, main_call7_v13, main_call7_v14, main_call7_cst,
   main_call7_v15, main_v63]

/-- Line 14 keeps every other reference. -/
theorem keeps14 (hr : r ∉ written14) : after hostOps0_14 V (no_index (Proc.devRef .tc r)) = V (Proc.devRef .tc r) :=
  after_of_writes_sub _ V (forall_writes_sub_of_map rfl) hr

/-- What line 15 writes, in order. -/
abbrev written15 : List (Ref sig .tc) :=
  [main_call8_c, main_call8_v0, main_call8_v1, main_call8_c_0, main_call8_v2, main_call8_v3, main_call8_v4,
   main_call8_v5, main_call8_c_1, main_call8_c_2, main_call8_v6, main_call8_v7, main_call8_v8, main_call8_v9,
   main_call8_v10, main_call8_v11, main_call8_c_3, main_call8_v12, main_call8_v13, main_call8_v14, main_call8_cst,
   main_call8_v15, main_v64]

/-- Line 15 keeps every other reference. -/
theorem keeps15 (hr : r ∉ written15) : after hostOps0_15 V (no_index (Proc.devRef .tc r)) = V (Proc.devRef .tc r) :=
  after_of_writes_sub _ V (forall_writes_sub_of_map rfl) hr

end Cert.Proof

end
-- ==== Proof.Model.lean ====
/- The propagation as plain functions of the argument arrays, at any float values: a row gather with its index clean-up
   (negative indices counted from the end, rows out of range filled with a NaN word), one sparse product, one round for
   each side of the graph, the four rounds set side by side, and the rows that the readout takes. Both programs apply
   these same functions before they read out, so the values stay closed here: no later module opens a gather or a
   scatter. -/
module

public import proofs.«01_k».proof.Proof.Gen.KernelIdeal

@[expose] public section

noncomputable section

namespace Cert.Proof

open Idealize.ShloMosaic Cert.KernelIdeal Cert.KernelIdeal.Gen

variable {F : FTy → Type} [FloatOps F]

/-! ## Indices -/

/-- Edge indices as a column, a negative one moved up by `n`. -/
def edgeIdx (n : BitVec 32) (ix : IVec S320000 32) : IVec S320000x1 32 :=
  broadcastInDim S320000x1 ![0] bcast_S320000_S320000x1_0
    (select (cmpi .slt ix (broadcastInDim S320000 ![] bcast_S_S320000 (constantI S_ 32 0#32)))
      (addi ix (broadcastInDim S320000 ![] bcast_S_S320000 (constantI S_ 32 n))) ix)

/-- Which edge indices lie between 0 and `top`, along every one of the 128 features. -/
def edgeOk (top : BitVec 32) (ix : IVec S320000x1 32) : IVec S320000x128 1 :=
  broadcastInDim S320000x128 ![0] bcast_S320000_S320000x128_0
    (Host.reduce IntOp.andi
      (andi (cmpi .sge ix (broadcastInDim S320000x1 ![] bcast_S_S320000x1 (constantI S_ 32 0#32)))
        (cmpi .sle ix (broadcastInDim S320000x1 ![0, 1] bcast_S1x1_S320000x1_0_1
          (broadcastInDim S1x1 ![1] bcast_S1_S1x1_1 (constantI S1 32 top)))))
      (constantI S_ 1 1#1) reducesTo_S320000x1_S320000_d1 h_S_)

/-- Batch indices as a column, a negative one moved up by `n`. -/
def batchIdx (n : BitVec 32) (ix : IVec S4096 32) : IVec S4096x1 32 :=
  broadcastInDim S4096x1 ![0] bcast_S4096_S4096x1_0
    (select (cmpi .slt ix (broadcastInDim S4096 ![] bcast_S_S4096 (constantI S_ 32 0#32)))
      (addi ix (broadcastInDim S4096 ![] bcast_S_S4096 (constantI S_ 32 n))) ix)

/-- Which batch indices lie between 0 and `top`, along every one of the 512 features. -/
def batchOk (top : BitVec 32) (ix : IVec S4096x1 32) : IVec S4096x512 1 :=
  broadcastInDim S4096x512 ![0] bcast_S4096_S4096x512_0
    (Host.reduce IntOp.andi
      (andi (cmpi .sge ix (broadcastInDim S4096x1 ![] bcast_S_S4096x1 (constantI S_ 32 0#32)))
        (cmpi .sle ix (broadcastInDim S4096x1 ![0, 1] bcast_S1x1_S4096x1_0_1
          (broadcastInDim S1x1 ![1] bcast_S1_S1x1_1 (constantI S1 32 top)))))
      (constantI S_ 1 1#1) reducesTo_S4096x1_S4096_d1 h_S_)

/-! ## Row gathers -/

/-- What a row whose index is out of range holds, per edge … -/
def edgeFill : FVec F S320000x128 .f32 :=
  broadcastInDim S320000x128 ![] bcast_S_S320000x128 (constant S_ .f32 0x7FC00000#32)

/-- … and per member of the batch. -/
def batchFill : FVec F S4096x512 .f32 :=
  broadcastInDim S4096x512 ![] bcast_S_S4096x512 (constant S_ .f32 0x7FC00000#32)

/-- One row of the gene features per edge. -/
def geneRows (g : FVec F S50000x128 .f32) (ix : IVec S320000 32) : FVec F S320000x128 .f32 :=
  select (edgeOk 49999#32 (edgeIdx 50000#32 ix))
    (Host.gather gather_S50000x128_S320000x1_S320000x128_1_0_n_n_0_1_1128 g (edgeIdx 50000#32 ix)) edgeFill

/-- One row of the herb features per edge. -/
def herbRows (h : FVec F S10000x128 .f32) (ix : IVec S320000 32) : FVec F S320000x128 .f32 :=
  select (edgeOk 9999#32 (edgeIdx 10000#32 ix))
    (Host.gather gather_S10000x128_S320000x1_S320000x128_1_0_n_n_0_1_1128 h (edgeIdx 10000#32 ix)) edgeFill

/-- One row of all the herb features per member of the batch. -/
def herbPick (h : FVec F S10000x512 .f32) (ix : IVec S4096 32) : FVec F S4096x512 .f32 :=
  select (batchOk 9999#32 (batchIdx 10000#32 ix))
    (Host.gather gather_S10000x512_S4096x1_S4096x512_1_0_n_n_0_1_1512 h (batchIdx 10000#32 ix)) batchFill

/-- One row of all the gene features per member of the batch. -/
def genePick (g : FVec F S50000x512 .f32) (ix : IVec S4096 32) : FVec F S4096x512 .f32 :=
  select (batchOk 49999#32 (batchIdx 50000#32 ix))
    (Host.gather gather_S50000x512_S4096x1_S4096x512_1_0_n_n_0_1_1512 g (batchIdx 50000#32 ix)) batchFill

/-! ## One round -/

/-- The edge values as a column. -/
def valCol (vals : FVec F S320000 .f32) : FVec F S320000x1 .f32 :=
  broadcastInDim S320000x1 ![0] bcast_S320000_S320000x1_0 vals

/-- The next herb features from the messages' rows: the scaled rows added up by destination, plus the old features
    scaled. -/
def herbRound (h : FVec F S10000x128 .f32) (d : FVec F S10000x1 .f32) (col : FVec F S320000x1 .f32)
    (rows : FVec F S320000x128 .f32) (dst : IVec S320000 32) : FVec F S10000x128 .f32 :=
  addf (Host.scatterAdd scatter_S10000x128_S320000x1_S320000x128_1_0_0_1
      (broadcastInDim S10000x128 ![] bcast_S_S10000x128 (constant S_ .f32 0x00000000#32))
      (broadcastInDim S320000x1 ![0] bcast_S320000_S320000x1_0 dst)
      (mulf (broadcastInDim S320000x128 ![0, 1] bcast_S320000x1_S320000x128_0_1 col) rows))
    (mulf h (broadcastInDim S10000x128 ![0, 1] bcast_S10000x1_S10000x128_0_1 d))

/-- The next gene features, likewise. -/
def geneRound (g : FVec F S50000x128 .f32) (d : FVec F S50000x1 .f32) (col : FVec F S320000x1 .f32)
    (rows : FVec F S320000x128 .f32) (dst : IVec S320000 32) : FVec F S50000x128 .f32 :=
  addf (Host.scatterAdd scatter_S50000x128_S320000x1_S320000x128_1_0_0_1
      (broadcastInDim S50000x128 ![] bcast_S_S50000x128 (constant S_ .f32 0x00000000#32))
      (broadcastInDim S320000x1 ![0] bcast_S320000_S320000x1_0 dst)
      (mulf (broadcastInDim S320000x128 ![0, 1] bcast_S320000x1_S320000x128_0_1 col) rows))
    (mulf g (broadcastInDim S50000x128 ![0, 1] bcast_S50000x1_S50000x128_0_1 d))

/-! ## Four rounds side by side -/

/-- The herb features of the start and of the three rounds, side by side. -/
def herbJoin (a b c d : FVec F S10000x128 .f32) : FVec F S10000x512 .f32 :=
  concatenate S10000x512 1 [⟨S10000x128, a⟩, ⟨S10000x128, b⟩, ⟨S10000x128, c⟩, ⟨S10000x128, d⟩]
    concatenates_S10000x128_S10000x128_S10000x128_S10000x128_S10000x512_d1

/-- The gene features of the start and of the three rounds, side by side. -/
def geneJoin (a b c d : FVec F S50000x128 .f32) : FVec F S50000x512 .f32 :=
  concatenate S50000x512 1 [⟨S50000x128, a⟩, ⟨S50000x128, b⟩, ⟨S50000x128, c⟩, ⟨S50000x128, d⟩]
    concatenates_S50000x128_S50000x128_S50000x128_S50000x128_S50000x512_d1

/-! ## The whole propagation -/

/-- The ten argument arrays. -/
@[ext] structure Args (F : FTy → Type) where
  /-- The herb table. -/
  herb0 : FVec F S10000x128 .f32
  /-- The gene table. -/
  gene0 : FVec F S50000x128 .f32
  /-- The edge values. -/
  vals : FVec F S320000 .f32
  /-- The herb features' own weights. -/
  dHerb : FVec F S10000x1 .f32
  /-- The gene features' own weights. -/
  dGene : FVec F S50000x1 .f32
  /-- The edges' herb ends. -/
  rows : IVec S320000 32
  /-- The edges' gene ends. -/
  cols : IVec S320000 32
  /-- The batch's herbs. -/
  herb : IVec S4096 32
  /-- The batch's first genes. -/
  geneI : IVec S4096 32
  /-- The batch's second genes. -/
  geneJ : IVec S4096 32

namespace Args

variable (A : Args F)

/-- One round for the herbs, from the herb and gene features before it. -/
def nextHerb (h : FVec F S10000x128 .f32) (g : FVec F S50000x128 .f32) : FVec F S10000x128 .f32 :=
  herbRound h A.dHerb (valCol A.vals) (geneRows g A.cols) A.rows

/-- One round for the genes. -/
def nextGene (h : FVec F S10000x128 .f32) (g : FVec F S50000x128 .f32) : FVec F S50000x128 .f32 :=
  geneRound g A.dGene (valCol A.vals) (herbRows h A.rows) A.cols

/-- The herb side after round one. -/
def herb1 : FVec F S10000x128 .f32 := A.nextHerb A.herb0 A.gene0
/-- The gene side after round one. -/
def gene1 : FVec F S50000x128 .f32 := A.nextGene A.herb0 A.gene0
/-- The herb side after round two. -/
def herb2 : FVec F S10000x128 .f32 := A.nextHerb A.herb1 A.gene1
/-- The gene side after round two. -/
def gene2 : FVec F S50000x128 .f32 := A.nextGene A.herb1 A.gene1
/-- The herb side after round three. -/
def herb3 : FVec F S10000x128 .f32 := A.nextHerb A.herb2 A.gene2
/-- The gene side after round three. -/
def gene3 : FVec F S50000x128 .f32 := A.nextGene A.herb2 A.gene2

/-- All of a herb's rounds, side by side. -/
def herbAll : FVec F S10000x512 .f32 := herbJoin A.herb0 A.herb1 A.herb2 A.herb3
/-- All of a gene's rounds, side by side. -/
def geneAll : FVec F S50000x512 .f32 := geneJoin A.gene0 A.gene1 A.gene2 A.gene3

/-- The batch's herb rows, -/
def he : FVec F S4096x512 .f32 := herbPick A.herbAll A.herb
/-- its first genes' rows, -/
def gi : FVec F S4096x512 .f32 := genePick A.geneAll A.geneI
/-- and its second genes' rows: what the readout takes. -/
def gj : FVec F S4096x512 .f32 := genePick A.geneAll A.geneJ

end Args

end Cert.Proof

end
-- ==== Proof.HostTakes.lean ====
/- The kernel's row gathers, one line of host operations each: whatever the buffers hold before the line, its result is
   Model.lean's gather of the table and the indices it names. -/
module

public import proofs.«01_k».proof.Proof.Model
public import proofs.«01_k».proof.Proof.Gen.KernelIdeal.Launch

@[expose] public section

set_option maxRecDepth 8192
set_option maxHeartbeats 2000000

noncomputable section

namespace Cert.Proof

open Idealize.ShloMosaic Idealize.ShloMosaic.StableHlo Idealize.ShloMosaic.TcCoe Cert.KernelIdeal Cert.KernelIdeal.Gen

variable {F : FTy → Type} [FloatOps F] (V : Valuation τ sig (Elt F))

/-- Line 1: the first round's gene rows, at the edges' gene ends. -/
theorem line1 : after hostOps0_1 V (no_index (Proc.devRef .tc main_v1))
    = geneRows (V (Proc.devRef .tc main_arg1)) (V (Proc.devRef .tc main_arg6)) := by
  simp only [hostOps0_1, TRef.binary, TRef.nullary, TRef.ternary, TRef.unary, TRef.toBuf, TRef.ofBuf, cast_eq]
  after_results_simp
  rfl

/-- Line 3: the first round's herb rows, at the edges' herb ends. -/
theorem line3 : after hostOps0_3 V (no_index (Proc.devRef .tc main_v11))
    = herbRows (V (Proc.devRef .tc main_arg0)) (V (Proc.devRef .tc main_arg5)) := by
  simp only [hostOps0_3, TRef.binary, TRef.nullary, TRef.ternary, TRef.unary, TRef.toBuf, TRef.ofBuf, cast_eq]
  after_results_simp
  rfl

/-- Line 5: the second round's gene rows. -/
theorem line5 : after hostOps0_5 V (no_index (Proc.devRef .tc main_v21))
    = geneRows (V (Proc.devRef .tc main_v19)) (V (Proc.devRef .tc main_arg6)) := by
  simp only [hostOps0_5, TRef.binary, TRef.nullary, TRef.ternary, TRef.unary, TRef.toBuf, TRef.ofBuf, cast_eq]
  after_results_simp
  rfl

/-- Line 7: the second round's herb rows. -/
theorem line7 : after hostOps0_7 V (no_index (Proc.devRef .tc main_v31))
    = herbRows (V (Proc.devRef .tc main_v9)) (V (Proc.devRef .tc main_arg5)) := by
  simp only [hostOps0_7, TRef.binary, TRef.nullary, TRef.ternary, TRef.unary, TRef.toBuf, TRef.ofBuf, cast_eq]
  after_results_simp
  rfl

/-- Line 9: the third round's gene rows. -/
theorem line9 : after hostOps0_9 V (no_index (Proc.devRef .tc main_v41))
    = geneRows (V (Proc.devRef .tc main_v39)) (V (Proc.devRef .tc main_arg6)) := by
  simp only [hostOps0_9, TRef.binary, TRef.nullary, TRef.ternary, TRef.unary, TRef.toBuf, TRef.ofBuf, cast_eq]
  after_results_simp
  rfl

/-- Line 11: the third round's herb rows. -/
theorem line11 : after hostOps0_11 V (no_index (Proc.devRef .tc main_v51))
    = herbRows (V (Proc.devRef .tc main_v29)) (V (Proc.devRef .tc main_arg5)) := by
  simp only [hostOps0_11, TRef.binary, TRef.nullary, TRef.ternary, TRef.unary, TRef.toBuf, TRef.ofBuf, cast_eq]
  after_results_simp
  rfl

/-- Line 13: the batch's herb rows. -/
theorem line13 : after hostOps0_13 V (no_index (Proc.devRef .tc main_v62))
    = herbPick (V (Proc.devRef .tc main_v60)) (V (Proc.devRef .tc main_arg7)) := by
  simp only [hostOps0_13, TRef.binary, TRef.nullary, TRef.ternary, TRef.unary, TRef.toBuf, TRef.ofBuf, cast_eq]
  after_results_simp
  rfl

/-- Line 14: the batch's first genes' rows. -/
theorem line14 : after hostOps0_14 V (no_index (Proc.devRef .tc main_v63))
    = genePick (V (Proc.devRef .tc main_v61)) (V (Proc.devRef .tc main_arg8)) := by
  simp only [hostOps0_14, TRef.binary, TRef.nullary, TRef.ternary, TRef.unary, TRef.toBuf, TRef.ofBuf, cast_eq]
  after_results_simp
  rfl

/-- Line 15: the batch's second genes' rows. -/
theorem line15 : after hostOps0_15 V (no_index (Proc.devRef .tc main_v64))
    = genePick (V (Proc.devRef .tc main_v61)) (V (Proc.devRef .tc main_arg9)) := by
  simp only [hostOps0_15, TRef.binary, TRef.nullary, TRef.ternary, TRef.unary, TRef.toBuf, TRef.ofBuf, cast_eq]
  after_results_simp
  rfl

end Cert.Proof

end
-- ==== Proof.HostRounds.lean ====
/- The kernel's rounds, one line of host operations each: whatever the buffers hold before the line, its results are
   Model.lean's round of the features, weights, edge values, gathered rows and destinations it names, and the edge values as
   a column for the next line. The last line also sets the rounds side by side. -/
module

public import proofs.«01_k».proof.Proof.Model
public import proofs.«01_k».proof.Proof.Gen.KernelIdeal.Launch

@[expose] public section

set_option maxRecDepth 8192
set_option maxHeartbeats 2000000

noncomputable section

namespace Cert.Proof

open Idealize.ShloMosaic Idealize.ShloMosaic.StableHlo Idealize.ShloMosaic.TcCoe Cert.KernelIdeal Cert.KernelIdeal.Gen

variable {F : FTy → Type} [FloatOps F] (V : Valuation τ sig (Elt F))

/-- Line 0: the edge values as a column. -/
theorem line0_col : after hostOps0 V (no_index (Proc.devRef .tc main_v0)) = valCol (V (Proc.devRef .tc main_arg2)) := by
  simp only [hostOps0]
  after_results_simp
  rfl

/-- Line 2: the first round for the herbs. -/
theorem line2 : after hostOps0_2 V (no_index (Proc.devRef .tc main_v9))
    = herbRound (V (Proc.devRef .tc main_arg0)) (V (Proc.devRef .tc main_arg3)) (V (Proc.devRef .tc main_v0))
        (V (Proc.devRef .tc main_v1)) (V (Proc.devRef .tc main_arg5)) := by
  simp only [hostOps0_2]
  after_results_simp
  rfl

/-- Line 2 also lays the edge values out as a column. -/
theorem line2_col : after hostOps0_2 V (no_index (Proc.devRef .tc main_v10)) = valCol (V (Proc.devRef .tc main_arg2)) := by
  simp only [hostOps0_2]
  after_results_simp
  rfl

/-- Line 4: the first round for the genes. -/
theorem line4 : after hostOps0_4 V (no_index (Proc.devRef .tc main_v19))
    = geneRound (V (Proc.devRef .tc main_arg1)) (V (Proc.devRef .tc main_arg4)) (V (Proc.devRef .tc main_v10))
        (V (Proc.devRef .tc main_v11)) (V (Proc.devRef .tc main_arg6)) := by
  simp only [hostOps0_4]
  after_results_simp
  rfl

/-- Line 4 also lays the edge values out as a column. -/
theorem line4_col : after hostOps0_4 V (no_index (Proc.devRef .tc main_v20)) = valCol (V (Proc.devRef .tc main_arg2)) := by
  simp only [hostOps0_4]
  after_results_simp
  rfl

/-- Line 6: the second round for the herbs. -/
theorem line6 : after hostOps0_6 V (no_index (Proc.devRef .tc main_v29))
    = herbRound (V (Proc.devRef .tc main_v9)) (V (Proc.devRef .tc main_arg3)) (V (Proc.devRef .tc main_v20))
        (V (Proc.devRef .tc main_v21)) (V (Proc.devRef .tc main_arg5)) := by
  simp only [hostOps0_6]
  after_results_simp
  rfl

/-- Line 6 also lays the edge values out as a column. -/
theorem line6_col : after hostOps0_6 V (no_index (Proc.devRef .tc main_v30)) = valCol (V (Proc.devRef .tc main_arg2)) := by
  simp only [hostOps0_6]
  after_results_simp
  rfl

/-- Line 8: the second round for the genes. -/
theorem line8 : after hostOps0_8 V (no_index (Proc.devRef .tc main_v39))
    = geneRound (V (Proc.devRef .tc main_v19)) (V (Proc.devRef .tc main_arg4)) (V (Proc.devRef .tc main_v30))
        (V (Proc.devRef .tc main_v31)) (V (Proc.devRef .tc main_arg6)) := by
  simp only [hostOps0_8]
  after_results_simp
  rfl

/-- Line 8 also lays the edge values out as a column. -/
theorem line8_col : after hostOps0_8 V (no_index (Proc.devRef .tc main_v40)) = valCol (V (Proc.devRef .tc main_arg2)) := by
  simp only [hostOps0_8]
  after_results_simp
  rfl

/-- Line 10: the third round for the herbs. -/
theorem line10 : after hostOps0_10 V (no_index (Proc.devRef .tc main_v49))
    = herbRound (V (Proc.devRef .tc main_v29)) (V (Proc.devRef .tc main_arg3)) (V (Proc.devRef .tc main_v40))
        (V (Proc.devRef .tc main_v41)) (V (Proc.devRef .tc main_arg5)) := by
  simp only [hostOps0_10]
  after_results_simp
  rfl

/-- Line 10 also lays the edge values out as a column. -/
theorem line10_col : after hostOps0_10 V (no_index (Proc.devRef .tc main_v50)) = valCol (V (Proc.devRef .tc main_arg2)) := by
  simp only [hostOps0_10]
  after_results_simp
  rfl

/-- Line 12: the third round for the genes. -/
theorem line12 : after hostOps0_12 V (no_index (Proc.devRef .tc main_v59))
    = geneRound (V (Proc.devRef .tc main_v39)) (V (Proc.devRef .tc main_arg4)) (V (Proc.devRef .tc main_v50))
        (V (Proc.devRef .tc main_v51)) (V (Proc.devRef .tc main_arg6)) := by
  simp only [hostOps0_12]
  after_results_simp
  rfl

/-- Line 12: the herbs' rounds side by side. -/
theorem line12_herb : after hostOps0_12 V (no_index (Proc.devRef .tc main_v60))
    = herbJoin (V (Proc.devRef .tc main_arg0)) (V (Proc.devRef .tc main_v9)) (V (Proc.devRef .tc main_v29))
        (V (Proc.devRef .tc main_v49)) := by
  simp only [hostOps0_12]
  after_results_simp
  rfl

/-- Line 12: the genes' rounds side by side, the last of them the line's own. -/
theorem line12_gene : after hostOps0_12 V (no_index (Proc.devRef .tc main_v61))
    = geneJoin (V (Proc.devRef .tc main_arg1)) (V (Proc.devRef .tc main_v19)) (V (Proc.devRef .tc main_v39))
        (geneRound (V (Proc.devRef .tc main_v39)) (V (Proc.devRef .tc main_arg4)) (V (Proc.devRef .tc main_v50))
          (V (Proc.devRef .tc main_v51)) (V (Proc.devRef .tc main_arg6))) := by
  simp only [hostOps0_12]
  after_results_simp
  rfl

end Cert.Proof

end
-- ==== Proof.HostRows.lean ====
/- The rows the kernel's region takes. The sixteen lines of host operations run one after another from the launch's
   buffers; read at each reference a later line names, the buffers hold Model.lean's values of the launch's arguments,
   up to the batch's herb rows and the two genes' rows. -/
module

public import proofs.«01_k».proof.Proof.HostKeeps
public import proofs.«01_k».proof.Proof.HostTakes
public import proofs.«01_k».proof.Proof.HostRounds
public import proofs.«01_k».proof.Proof.Gen.KernelIdeal.Frame

@[expose] public section

set_option maxRecDepth 8192
set_option maxHeartbeats 2000000

noncomputable section

namespace Cert.Proof

open Idealize.ShloMosaic Idealize.ShloMosaic.StableHlo Idealize.ShloMosaic.TcCoe Cert.KernelIdeal Cert.KernelIdeal.Gen

variable {F : FTy → Type} [FloatOps F]

/-- The kernel's argument arrays, read off its buffers. -/
def kerArgs (V : Valuation τ sig (Elt F)) : Args F where
  herb0 := V (Proc.devRef .tc main_arg0)
  gene0 := V (Proc.devRef .tc main_arg1)
  vals := V (Proc.devRef .tc main_arg2)
  dHerb := V (Proc.devRef .tc main_arg3)
  dGene := V (Proc.devRef .tc main_arg4)
  rows := V (Proc.devRef .tc main_arg5)
  cols := V (Proc.devRef .tc main_arg6)
  herb := V (Proc.devRef .tc main_arg7)
  geneI := V (Proc.devRef .tc main_arg8)
  geneJ := V (Proc.devRef .tc main_arg9)

/-! ## The buffers after each line -/

/-- The buffers after host line 0. -/
def stage0 (V : Valuation τ sig (Elt F)) : Valuation τ sig (Elt F) := after hostOps0 V
/-- The buffers after host line 1. -/
def stage1 (V : Valuation τ sig (Elt F)) : Valuation τ sig (Elt F) := after hostOps0_1 (stage0 V)
/-- The buffers after host line 2. -/
def stage2 (V : Valuation τ sig (Elt F)) : Valuation τ sig (Elt F) := after hostOps0_2 (stage1 V)
/-- The buffers after host line 3. -/
def stage3 (V : Valuation τ sig (Elt F)) : Valuation τ sig (Elt F) := after hostOps0_3 (stage2 V)
/-- The buffers after host line 4. -/
def stage4 (V : Valuation τ sig (Elt F)) : Valuation τ sig (Elt F) := after hostOps0_4 (stage3 V)
/-- The buffers after host line 5. -/
def stage5 (V : Valuation τ sig (Elt F)) : Valuation τ sig (Elt F) := after hostOps0_5 (stage4 V)
/-- The buffers after host line 6. -/
def stage6 (V : Valuation τ sig (Elt F)) : Valuation τ sig (Elt F) := after hostOps0_6 (stage5 V)
/-- The buffers after host line 7. -/
def stage7 (V : Valuation τ sig (Elt F)) : Valuation τ sig (Elt F) := after hostOps0_7 (stage6 V)
/-- The buffers after host line 8. -/
def stage8 (V : Valuation τ sig (Elt F)) : Valuation τ sig (Elt F) := after hostOps0_8 (stage7 V)
/-- The buffers after host line 9. -/
def stage9 (V : Valuation τ sig (Elt F)) : Valuation τ sig (Elt F) := after hostOps0_9 (stage8 V)
/-- The buffers after host line 10. -/
def stage10 (V : Valuation τ sig (Elt F)) : Valuation τ sig (Elt F) := after hostOps0_10 (stage9 V)
/-- The buffers after host line 11. -/
def stage11 (V : Valuation τ sig (Elt F)) : Valuation τ sig (Elt F) := after hostOps0_11 (stage10 V)
/-- The buffers after host line 12. -/
def stage12 (V : Valuation τ sig (Elt F)) : Valuation τ sig (Elt F) := after hostOps0_12 (stage11 V)
/-- The buffers after host line 13. -/
def stage13 (V : Valuation τ sig (Elt F)) : Valuation τ sig (Elt F) := after hostOps0_13 (stage12 V)
/-- The buffers after host line 14. -/
def stage14 (V : Valuation τ sig (Elt F)) : Valuation τ sig (Elt F) := after hostOps0_14 (stage13 V)
/-- The buffers after host line 15. -/
def stage15 (V : Valuation τ sig (Elt F)) : Valuation τ sig (Elt F) := after hostOps0_15 (stage14 V)

variable (V : Valuation τ sig (Elt F)) {r : Ref sig .tc}

/-! ## What a line does not write passes it by -/

/-- Line 0 leaves what it does not write. -/
theorem pass0 (hr : r ∉ written0) : stage0 V (no_index (Proc.devRef .tc r)) = V (Proc.devRef .tc r) :=
  keeps0 _ hr
/-- Line 1 leaves what it does not write. -/
theorem pass1 (hr : r ∉ written1) : stage1 V (no_index (Proc.devRef .tc r)) = stage0 V (Proc.devRef .tc r) :=
  keeps1 _ hr
/-- Line 2 leaves what it does not write. -/
theorem pass2 (hr : r ∉ written2) : stage2 V (no_index (Proc.devRef .tc r)) = stage1 V (Proc.devRef .tc r) :=
  keeps2 _ hr
/-- Line 3 leaves what it does not write. -/
theorem pass3 (hr : r ∉ written3) : stage3 V (no_index (Proc.devRef .tc r)) = stage2 V (Proc.devRef .tc r) :=
  keeps3 _ hr
/-- Line 4 leaves what it does not write. -/
theorem pass4 (hr : r ∉ written4) : stage4 V (no_index (Proc.devRef .tc r)) = stage3 V (Proc.devRef .tc r) :=
  keeps4 _ hr
/-- Line 5 leaves what it does not write. -/
theorem pass5 (hr : r ∉ written5) : stage5 V (no_index (Proc.devRef .tc r)) = stage4 V (Proc.devRef .tc r) :=
  keeps5 _ hr
/-- Line 6 leaves what it does not write. -/
theorem pass6 (hr : r ∉ written6) : stage6 V (no_index (Proc.devRef .tc r)) = stage5 V (Proc.devRef .tc r) :=
  keeps6 _ hr
/-- Line 7 leaves what it does not write. -/
theorem pass7 (hr : r ∉ written7) : stage7 V (no_index (Proc.devRef .tc r)) = stage6 V (Proc.devRef .tc r) :=
  keeps7 _ hr
/-- Line 8 leaves what it does not write. -/
theorem pass8 (hr : r ∉ written8) : stage8 V (no_index (Proc.devRef .tc r)) = stage7 V (Proc.devRef .tc r) :=
  keeps8 _ hr
/-- Line 9 leaves what it does not write. -/
theorem pass9 (hr : r ∉ written9) : stage9 V (no_index (Proc.devRef .tc r)) = stage8 V (Proc.devRef .tc r) :=
  keeps9 _ hr
/-- Line 10 leaves what it does not write. -/
theorem pass10 (hr : r ∉ written10) : stage10 V (no_index (Proc.devRef .tc r)) = stage9 V (Proc.devRef .tc r) :=
  keeps10 _ hr
/-- Line 11 leaves what it does not write. -/
theorem pass11 (hr : r ∉ written11) : stage11 V (no_index (Proc.devRef .tc r)) = stage10 V (Proc.devRef .tc r) :=
  keeps11 _ hr
/-- Line 12 leaves what it does not write. -/
theorem pass12 (hr : r ∉ written12) : stage12 V (no_index (Proc.devRef .tc r)) = stage11 V (Proc.devRef .tc r) :=
  keeps12 _ hr
/-- Line 13 leaves what it does not write. -/
theorem pass13 (hr : r ∉ written13) : stage13 V (no_index (Proc.devRef .tc r)) = stage12 V (Proc.devRef .tc r) :=
  keeps13 _ hr
/-- Line 14 leaves what it does not write. -/
theorem pass14 (hr : r ∉ written14) : stage14 V (no_index (Proc.devRef .tc r)) = stage13 V (Proc.devRef .tc r) :=
  keeps14 _ hr
/-- Line 15 leaves what it does not write. -/
theorem pass15 (hr : r ∉ written15) : stage15 V (no_index (Proc.devRef .tc r)) = stage14 V (Proc.devRef .tc r) :=
  keeps15 _ hr

/-! ## The propagation, value by value -/

/-- The edge values as a column (buffer v0). -/
theorem at_v0 : stage0 V (no_index (Proc.devRef .tc main_v0)) = valCol (kerArgs V).vals := by
  rw [stage0, line0_col]
  rfl

/-- The gene rows the edges read, round one (buffer v1). -/
theorem at_v1 : stage1 V (no_index (Proc.devRef .tc main_v1)) = geneRows (kerArgs V).gene0 (kerArgs V).cols := by
  rw [stage1, line1]
  simp (disch := decide) only [pass0]
  rfl

/-- The herb side after round one (buffer v9). -/
theorem at_v9 : stage2 V (no_index (Proc.devRef .tc main_v9)) = (kerArgs V).herb1 := by
  rw [stage2, line2]
  simp (disch := decide) only [pass0, pass1, at_v0, at_v1]
  rfl

/-- The edge values as a column (buffer v10). -/
theorem at_v10 : stage2 V (no_index (Proc.devRef .tc main_v10)) = valCol (kerArgs V).vals := by
  rw [stage2, line2_col]
  simp (disch := decide) only [pass0, pass1]
  rfl

/-- The herb rows the edges read, round one (buffer v11). -/
theorem at_v11 : stage3 V (no_index (Proc.devRef .tc main_v11)) = herbRows (kerArgs V).herb0 (kerArgs V).rows := by
  rw [stage3, line3]
  simp (disch := decide) only [pass0, pass1, pass2]
  rfl

/-- The gene side after round one (buffer v19). -/
theorem at_v19 : stage4 V (no_index (Proc.devRef .tc main_v19)) = (kerArgs V).gene1 := by
  rw [stage4, line4]
  simp (disch := decide) only [pass0, pass1, pass2, pass3, at_v10, at_v11]
  rfl

/-- The edge values as a column (buffer v20). -/
theorem at_v20 : stage4 V (no_index (Proc.devRef .tc main_v20)) = valCol (kerArgs V).vals := by
  rw [stage4, line4_col]
  simp (disch := decide) only [pass0, pass1, pass2, pass3]
  rfl

/-- The gene rows the edges read, round two (buffer v21). -/
theorem at_v21 : stage5 V (no_index (Proc.devRef .tc main_v21)) = geneRows (kerArgs V).gene1 (kerArgs V).cols := by
  rw [stage5, line5]
  simp (disch := decide) only [pass0, pass1, pass2, pass3, pass4, at_v19]
  rfl

/-- The herb side after round two (buffer v29). -/
theorem at_v29 : stage6 V (no_index (Proc.devRef .tc main_v29)) = (kerArgs V).herb2 := by
  rw [stage6, line6]
  simp (disch := decide) only [pass0, pass1, pass2, pass3, pass4, pass5, at_v9, at_v20, at_v21]
  rfl

/-- The edge values as a column (buffer v30). -/
theorem at_v30 : stage6 V (no_index (Proc.devRef .tc main_v30)) = valCol (kerArgs V).vals := by
  rw [stage6, line6_col]
  simp (disch := decide) only [pass0, pass1, pass2, pass3, pass4, pass5]
  rfl

/-- The herb rows the edges read, round two (buffer v31). -/
theorem at_v31 : stage7 V (no_index (Proc.devRef .tc main_v31)) = herbRows (kerArgs V).herb1 (kerArgs V).rows := by
  rw [stage7, line7]
  simp (disch := decide) only [pass0, pass1, pass2, pass3, pass4, pass5, pass6, at_v9]
  rfl

/-- The gene side after round two (buffer v39). -/
theorem at_v39 : stage8 V (no_index (Proc.devRef .tc main_v39)) = (kerArgs V).gene2 := by
  rw [stage8, line8]
  simp (disch := decide) only [pass0, pass1, pass2, pass3, pass4, pass5, pass6, pass7, at_v19, at_v30, at_v31]
  rfl

/-- The edge values as a column (buffer v40). -/
theorem at_v40 : stage8 V (no_index (Proc.devRef .tc main_v40)) = valCol (kerArgs V).vals := by
  rw [stage8, line8_col]
  simp (disch := decide) only [pass0, pass1, pass2, pass3, pass4, pass5, pass6, pass7]
  rfl

/-- The gene rows the edges read, round three (buffer v41). -/
theorem at_v41 : stage9 V (no_index (Proc.devRef .tc main_v41)) = geneRows (kerArgs V).gene2 (kerArgs V).cols := by
  rw [stage9, line9]
  simp (disch := decide) only [pass0, pass1, pass2, pass3, pass4, pass5, pass6, pass7, pass8, at_v39]
  rfl

/-- The herb side after round three (buffer v49). -/
theorem at_v49 : stage10 V (no_index (Proc.devRef .tc main_v49)) = (kerArgs V).herb3 := by
  rw [stage10, line10]
  simp (disch := decide) only [pass0, pass1, pass2, pass3, pass4, pass5, pass6, pass7, pass8, pass9, at_v29, at_v40, at_v41]
  rfl

/-- The edge values as a column (buffer v50). -/
theorem at_v50 : stage10 V (no_index (Proc.devRef .tc main_v50)) = valCol (kerArgs V).vals := by
  rw [stage10, line10_col]
  simp (disch := decide) only [pass0, pass1, pass2, pass3, pass4, pass5, pass6, pass7, pass8, pass9]
  rfl

/-- The herb rows the edges read, round three (buffer v51). -/
theorem at_v51 : stage11 V (no_index (Proc.devRef .tc main_v51)) = herbRows (kerArgs V).herb2 (kerArgs V).rows := by
  rw [stage11, line11]
  simp (disch := decide) only [pass0, pass1, pass2, pass3, pass4, pass5, pass6, pass7, pass8, pass9, pass10, at_v29]
  rfl

/-- The herb rounds side by side (buffer v60). -/
theorem at_v60 : stage12 V (no_index (Proc.devRef .tc main_v60)) = (kerArgs V).herbAll := by
  rw [stage12, line12_herb]
  simp (disch := decide) only [pass0, pass1, pass2, pass3, pass4, pass5, pass6, pass7, pass8, pass9, pass10, pass11, at_v9, at_v29, at_v49]
  rfl

/-- The gene rounds side by side (buffer v61). -/
theorem at_v61 : stage12 V (no_index (Proc.devRef .tc main_v61)) = (kerArgs V).geneAll := by
  rw [stage12, line12_gene]
  simp (disch := decide) only [pass0, pass1, pass2, pass3, pass4, pass5, pass6, pass7, pass8, pass9, pass10, pass11, at_v19, at_v39, at_v50, at_v51]
  rfl

/-- The batch's herb rows (buffer v62). -/
theorem at_v62 : stage13 V (no_index (Proc.devRef .tc main_v62)) = (kerArgs V).he := by
  rw [stage13, line13]
  simp (disch := decide) only [pass0, pass1, pass2, pass3, pass4, pass5, pass6, pass7, pass8, pass9, pass10, pass11, pass12, at_v60]
  rfl

/-- The batch's first gene rows (buffer v63). -/
theorem at_v63 : stage14 V (no_index (Proc.devRef .tc main_v63)) = (kerArgs V).gi := by
  rw [stage14, line14]
  simp (disch := decide) only [pass0, pass1, pass2, pass3, pass4, pass5, pass6, pass7, pass8, pass9, pass10, pass11, pass12, pass13, at_v61]
  rfl

/-- The batch's second gene rows (buffer v64). -/
theorem at_v64 : stage15 V (no_index (Proc.devRef .tc main_v64)) = (kerArgs V).gj := by
  rw [stage15, line15]
  simp (disch := decide) only [pass0, pass1, pass2, pass3, pass4, pass5, pass6, pass7, pass8, pass9, pass10, pass11, pass12, pass13, pass14, at_v61]
  rfl

/-! ## The region's inputs -/

/-- All sixteen lines, one after another. -/
theorem stage15_eq : after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15]) V
    = stage15 V := by
  simp only [List.flatten_cons, List.flatten_nil, List.append_nil, after_append]
  rfl

/-- The batch's herb rows when the region starts. -/
theorem ker_he : stage15 V (Proc.devRef .tc main_v62) = (kerArgs V).he := by
  rw [pass15 V (by decide), pass14 V (by decide), at_v62]
/-- The batch's first gene rows when the region starts. -/
theorem ker_gi : stage15 V (Proc.devRef .tc main_v63) = (kerArgs V).gi := by
  rw [pass15 V (by decide), at_v63]
/-- The batch's second gene rows when the region starts. -/
theorem ker_gj : stage15 V (Proc.devRef .tc main_v64) = (kerArgs V).gj := at_v64 V

end Cert.Proof

end
-- ==== Proof.Region.lean ====
/- What the kernel's region leaves. The region runs one point whose blocks are the whole arrays, so each result array ends
   as the body's value of the three input arrays, and those are Model.lean's rows of the launch's arguments. The third
   result is read through the reshape after the region. -/
module

public import proofs.«01_k».proof.Proof.HostRows
public import proofs.«01_k».proof.Proof.Gen.KernelIdeal.Points
public import Idealize.ShloMosaic.Lib.Pipeline.ValueKit

@[expose] public section

set_option maxRecDepth 8192
set_option maxHeartbeats 2000000

noncomputable section

namespace Cert.Proof

open Idealize.ShloMosaic Idealize.ShloMosaic.StableHlo Idealize.ShloMosaic.TcCoe Idealize.SL.Sem
open Cert.KernelIdeal Cert.KernelIdeal.Gen

variable {F : FTy → Type} [FloatOps F] (m : (b : Loc nD τ sig) → Buf (Elt F) b) (c : Dev nD)

/-- The launch's arguments on a device. -/
def launchArgs : Args F := kerArgs fun b => m (c, b)

/-! ## The input blocks are the arrays -/

/-- Window 0 stays at the first block. -/
theorem index0 : ∀ (t : Fin grid0.N) (a : Fin 2), win0_0.index t a = 0 := by decide +kernel
/-- Window 1 stays at the first block. -/
theorem index1 : ∀ (t : Fin grid0.N) (a : Fin 2), win0_1.index t a = 0 := by decide +kernel
/-- Window 2 stays at the first block. -/
theorem index2 : ∀ (t : Fin grid0.N) (a : Fin 2), win0_2.index t a = 0 := by decide +kernel
/-- Window 3 stays at the first block. -/
theorem index3 : ∀ (t : Fin grid0.N) (a : Fin 1), win0_3.index t a = 0 := by decide +kernel
/-- Window 4 stays at the first block. -/
theorem index4 : ∀ (t : Fin grid0.N) (a : Fin 1), win0_4.index t a = 0 := by decide +kernel
/-- Window 5 stays at the first block. -/
theorem index5 : ∀ (t : Fin grid0.N) (a : Fin 2), win0_5.index t a = 0 := by decide +kernel

/-- The first block read is the herb rows. -/
theorem block_he (t : Fin cfg0.N) : iblk m c 0 t = (launchArgs m c).he := by
  rw [launchArgs, ← ker_he, ← stage15_eq]
  funext y
  show V m c main_v62 (((cfg0.win 0).blk t).view.emb y) = V m c main_v62 y
  congr 1
  funext a; apply Fin.ext
  exact Pipeline.Window.rect_emb_val_of_index_zero win0_0 t a (index0 t a) y

/-- The second block read is the first gene rows. -/
theorem block_gi (t : Fin cfg0.N) : iblk m c 1 t = (launchArgs m c).gi := by
  rw [launchArgs, ← ker_gi, ← stage15_eq]
  funext y
  show V m c main_v63 (((cfg0.win 1).blk t).view.emb y) = V m c main_v63 y
  congr 1
  funext a; apply Fin.ext
  exact Pipeline.Window.rect_emb_val_of_index_zero win0_1 t a (index1 t a) y

/-- The third block read is the second gene rows. -/
theorem block_gj (t : Fin cfg0.N) : iblk m c 2 t = (launchArgs m c).gj := by
  rw [launchArgs, ← ker_gj, ← stage15_eq]
  funext y
  show V m c main_v64 (((cfg0.win 2).blk t).view.emb y) = V m c main_v64 y
  congr 1
  funext a; apply Fin.ext
  exact Pipeline.Window.rect_emb_val_of_index_zero win0_2 t a (index2 t a) y

/-! ## What the body stores -/

/-- A load through the whole-block rectangle is the block. -/
theorem whole_read (x : Vec F S4096x512 .f32) : View.ld x r0_0 = x :=
  View.ld_unit_zero (by funext a; fin_cases a <;> rfl) _ x

/-- What the body stores as the first score. -/
theorem pi_stored (x y z : Vec F S4096x512 .f32) : out0_3 x y z = k0_pay5 x y := by
  unfold out0_3
  rw [View.canon_unit_zero (by funext a; fin_cases a; rfl), whole_read, whole_read]

/-- What the body stores as the second score. -/
theorem pj_stored (x y z : Vec F S4096x512 .f32) : out0_4 x y z = k0_pay6 x z := by
  unfold out0_4
  rw [View.canon_unit_zero (by funext a; fin_cases a; rfl), whole_read, whole_read]

/-- What the body stores as the loss. -/
theorem loss_stored (x y z : Vec F S4096x512 .f32) : out0_5 x y z = k0_pay1 (k0_pay7 x y z) (k0_pay8 x y z) := by
  unfold out0_5
  rw [View.canon_unit_zero (by funext a; fin_cases a <;> rfl), whole_read, whole_read, whole_read]

/-! ## The result arrays after the region -/

/-- The first score array at the end of the region. -/
theorem pi_final : (dats m 0 c).arrAt 3 cfg0.N
    = k0_pay5 (launchArgs m c).he (launchArgs m c).gi := by
  refine Pipeline.Dat.arrAt_eq_of_after_last (dats m 0 c) 3 t0_0 (by decide +kernel) _ (fun j => ?_)
  rw [after0_3, pi_stored]
  simp only [block_he, block_gi, block_gj]
  rfl

/-- The second score array at the end of the region. -/
theorem pj_final : (dats m 0 c).arrAt 4 cfg0.N
    = k0_pay6 (launchArgs m c).he (launchArgs m c).gj := by
  refine Pipeline.Dat.arrAt_eq_of_after_last (dats m 0 c) 4 t0_0 (by decide +kernel) _ (fun j => ?_)
  rw [after0_4, pj_stored]
  simp only [block_he, block_gi, block_gj]
  rfl

/-- The loss array at the end of the region. -/
theorem loss_final : (dats m 0 c).arrAt 5 cfg0.N
    = k0_pay1 (k0_pay7 (launchArgs m c).he (launchArgs m c).gi (launchArgs m c).gj)
      (k0_pay8 (launchArgs m c).he (launchArgs m c).gi (launchArgs m c).gj) := by
  refine Pipeline.Dat.arrAt_eq_of_after_last (dats m 0 c) 5 t0_0 (by decide +kernel) _ (fun j => ?_)
  rw [after0_5, loss_stored]
  simp only [block_he, block_gi, block_gj]
  rfl

/-! ## The result past the region's reshape -/

/-- The third result is the region's one number, reshaped. -/
theorem loss_reshaped : Pipeline.afterTail₀ cfgs (dats m) 0 (V0 m) [hostOps1] c main_v66
    = shapeCast S_ ((dats m 0 c).arrAt 5 cfg0.N) shapeCasts_S1x1_S_ := by
  unfold Pipeline.afterTail₀
  simp only [List.flatten_cons, List.flatten_nil, List.append_nil, hostOps1]
  after_results_simp
  rw [Pipeline.withArrays_arr spec0 winFacts0.arr_inj c (V0 m c) _ 5]
  rfl

end Cert.Proof

end
-- ==== Proof.Softplus.lean ====
/- The loss in the extended reals. The kernel takes the softplus of minus a margin as max(-x, 0) + log(1 + exp(-|x|)), the
   reference minus the log of the logistic function; the two agree at every extended real, the infinite ones too. The kernel
   sums and divides the softplus, the reference sums, divides and then negates the logs; since no log of the logistic is
   +∞, negation goes through the sum. -/
module

public import Idealize.ShloMosaic.PureOps.Ideal
public import Idealize.ShloMosaic.Lib.Pointwise

@[expose] public section

noncomputable section

namespace Cert.Proof

open Idealize.ShloMosaic

/-- The log of the logistic function, as the reference composes it. -/
def logSigmoid (x : EReal) : EReal := Ideal.log (Ideal.logistic x)

/-- The softplus of minus a number, as the kernel composes it. -/
def softplusNeg (x : EReal) : EReal := max (0 - x) 0 + Ideal.log1p (Ideal.exp (0 - max x (-x)))

/-! ## At a real -/

/-- The log-sigmoid of a real. -/
theorem logSigmoid_coe (r : ℝ) : logSigmoid r = ((-Real.log (1 + Real.exp (-r)) : ℝ) : EReal) := by
  have hpos : (0 : ℝ) < 1 + Real.exp (-r) := by positivity
  rw [logSigmoid, Ideal.logistic_coe, Ideal.log_coe, if_neg (not_le.mpr (inv_pos.mpr hpos)), Real.log_inv]

/-- Pulling the larger exponential out of 1 + exp(-r). -/
theorem max_add_log (r : ℝ) : max (-r) 0 + Real.log (1 + Real.exp (-|r|)) = Real.log (1 + Real.exp (-r)) := by
  rcases le_total 0 r with h | h
  · rw [max_eq_right (by linarith), abs_of_nonneg h, zero_add]
  · rw [max_eq_left (by linarith), abs_of_nonpos h, neg_neg]
    have hsplit : 1 + Real.exp (-r) = Real.exp (-r) * (1 + Real.exp r) := by
      rw [mul_add, mul_one, ← Real.exp_add, neg_add_cancel, Real.exp_zero, add_comm]
    rw [hsplit, Real.log_mul (Real.exp_ne_zero _) (by positivity), Real.log_exp]

/-- The larger of two reals, as an extended real. -/
theorem coe_max (a b : ℝ) : ((max a b : ℝ) : EReal) = max (a : EReal) b := EReal.coe_strictMono.monotone.map_max

/-- The softplus of a negated real. -/
theorem softplusNeg_coe (r : ℝ) : softplusNeg r = ((Real.log (1 + Real.exp (-r)) : ℝ) : EReal) := by
  have hpos : (0 : ℝ) < 1 + Real.exp (-|r|) := by positivity
  have hmax : max (0 - (r : EReal)) 0 = ((max (-r) 0 : ℝ) : EReal) := by
    rw [zero_sub, coe_max, EReal.coe_neg, EReal.coe_zero]
  have habs : 0 - max (r : EReal) (-r) = ((-|r| : ℝ) : EReal) := by
    rw [zero_sub, EReal.coe_neg, abs_eq_max_neg, coe_max, EReal.coe_neg]
  rw [softplusNeg, hmax, habs, Ideal.exp_coe, Ideal.log1p, ← EReal.coe_one, ← EReal.coe_add, Ideal.log_coe,
    if_neg (not_le.mpr hpos), ← EReal.coe_add, max_add_log]

/-! ## Everywhere -/

/-- The logarithm of one. -/
theorem log_one : Ideal.log 1 = 0 := by
  rw [← EReal.coe_one, Ideal.log_coe, if_neg (by norm_num), Real.log_one, EReal.coe_zero]

/-- The logarithm of zero. -/
theorem log_zero : Ideal.log 0 = ⊥ := by rw [← EReal.coe_zero, Ideal.log_coe, if_pos le_rfl]

/-- The log-sigmoid at plus infinity. -/
theorem logSigmoid_top : logSigmoid ⊤ = 0 := by rw [logSigmoid, Ideal.logistic_top, log_one]

/-- The log-sigmoid at minus infinity. -/
theorem logSigmoid_bot : logSigmoid ⊥ = ⊥ := by rw [logSigmoid, Ideal.logistic_bot, log_zero]

/-- The softplus of minus plus-infinity. -/
theorem softplusNeg_top : softplusNeg ⊤ = 0 := by
  simp [softplusNeg, Ideal.log1p, log_one]

/-- The softplus of minus minus-infinity. -/
theorem softplusNeg_bot : softplusNeg ⊥ = ⊤ := by
  simp [softplusNeg, Ideal.log1p, log_one]

/-- The kernel's softplus is minus the reference's log of the logistic, at every extended real. -/
theorem softplusNeg_eq (x : EReal) : softplusNeg x = -logSigmoid x := by
  induction x using EReal.rec with
  | bot => rw [softplusNeg_bot, logSigmoid_bot, EReal.neg_bot]
  | top => rw [softplusNeg_top, logSigmoid_top, neg_zero]
  | coe r => rw [softplusNeg_coe, logSigmoid_coe, ← EReal.coe_neg, neg_neg]

/-- The log of the logistic is never +∞. -/
theorem logSigmoid_ne_top (x : EReal) : logSigmoid x ≠ ⊤ := by
  induction x using EReal.rec with
  | bot => rw [logSigmoid_bot]; exact bot_ne_top
  | top => rw [logSigmoid_top]; exact EReal.zero_ne_top
  | coe r => rw [logSigmoid_coe]; exact EReal.coe_ne_top _

/-! ## Negation through a sum and a division -/

/-- A sum of terms below plus infinity stays below it. -/
theorem sum_ne_top {ι : Type} (s : Finset ι) (f : ι → EReal) (h : ∀ k, f k ≠ ⊤) : ∑ k ∈ s, f k ≠ ⊤ := by
  classical
  induction s using Finset.induction_on with
  | empty => simp
  | insert a s ha ih => rw [Finset.sum_insert ha]; exact EReal.add_ne_top (h a) ih

/-- Negation goes into a sum of terms below plus infinity. -/
theorem neg_sum {ι : Type} (s : Finset ι) (f : ι → EReal) (h : ∀ k, f k ≠ ⊤) : -∑ k ∈ s, f k = ∑ k ∈ s, -f k := by
  classical
  induction s using Finset.induction_on with
  | empty => simp
  | insert a s ha ih =>
    rw [Finset.sum_insert ha, Finset.sum_insert ha, EReal.neg_add (.inr (sum_ne_top s f h)) (.inl (h a)), sub_eq_add_neg, ih]

/-- Negation goes into the numerator of a division by a nonzero number. -/
theorem neg_div {y : EReal} (hy : y ≠ 0) (x : EReal) : -Ideal.div x y = Ideal.div (-x) y := by
  rw [Ideal.div, Ideal.div, if_neg hy, if_neg hy, EReal.neg_mul]

end Cert.Proof

end
-- ==== Proof.Readout.lean ====
/- The readout at ideal values. Read off the batch's three blocks of rows, the kernel's two score vectors are the
   reference's, and the kernel's one number is the reference's loss: both sum the softplus of the scores' margins and the
   scaled squares over the batch and divide by its size. -/
module

public import proofs.«01_k».proof.Proof.Softplus
public import proofs.«01_k».proof.Proof.Gen.KernelIdeal.Skeleton
public import proofs.«01_k».proof.Proof.Gen.ReferenceIdeal
public import Idealize.ShloMosaic.Lib.Pipeline.Value

@[expose] public section

noncomputable section

namespace Cert.Proof

open Idealize.ShloMosaic
open Cert.KernelIdeal (S4096x512 S4096 S_ S1x4096 S1 S1x1)
open Cert.KernelIdeal.Gen (k0_pay1 k0_pay2 k0_pay3 k0_pay4 k0_pay5 k0_pay6 k0_pay7 k0_pay8)

variable (x y z : FVec Ideal S4096x512 .f32)

/-! ## The scores -/

/-- The inner product of two blocks' rows. -/
def score (k : Fin 4096) : EReal := ∑ l : Fin 512, x (ix2 k l) * y (ix2 k l)

/-- The body's first score, one member of the batch. -/
theorem pi_at (k : Fin 4096) : k0_pay5 (F := Ideal) x y (ix1 k) = score x y k := by
  unfold k0_pay5 k0_pay2 k0_pay3 score
  simp only [shapeCast_self]
  pointwise

/-- The body's second score, one member of the batch. -/
theorem pj_at (k : Fin 4096) : k0_pay6 (F := Ideal) x z (ix1 k) = score x z k := by
  unfold k0_pay6 k0_pay2 k0_pay4 score
  simp only [shapeCast_self]
  pointwise

/-- The reference's scores. -/
def refScore : FVec Ideal S4096 .f32 :=
  Host.reduceAdd (mulf x y) (constant S_ .f32 0x00000000#32) Cert.ReferenceIdeal.Gen.reducesTo_S4096x512_S4096_d1
    Cert.ReferenceIdeal.Gen.h_S_

/-- The reference's score, one member of the batch. -/
theorem refScore_at (k : Fin 4096) : refScore x y (ix1 k) = score x y k := by
  unfold refScore score
  pointwise

/-- The kernel's first score vector is the reference's, -/
theorem pi_eq : k0_pay5 (F := Ideal) x y = refScore x y :=
  funext fun j => by
    obtain ⟨k, rfl⟩ : ∃ k : Fin 4096, j = ix1 k := ⟨j 0, eq_ix1 j⟩
    rw [pi_at, refScore_at]

/-- and so is its second. -/
theorem pj_eq : k0_pay6 (F := Ideal) x z = refScore x z :=
  funext fun j => by
    obtain ⟨k, rfl⟩ : ∃ k : Fin 4096, j = ix1 k := ⟨j 0, eq_ix1 j⟩
    rw [pj_at, refScore_at]

/-! ## The kernel's loss -/

/-- The batch's size, as the f32 word both programs divide by. -/
def batch : EReal := Ideal.ofBits .f32 0x45800000#32

/-- The weight of the squares, as the f32 word both programs multiply by. -/
def weight : EReal := Ideal.ofBits .f32 0x3C23D70A#32

/-- The three rows' squares, summed. -/
def squares (k : Fin 4096) : EReal := ∑ l : Fin 512, (x (ix2 k l) * x (ix2 k l) + y (ix2 k l) * y (ix2 k l) + z (ix2 k l) * z (ix2 k l))

/-- The body's mean of the ranking terms. -/
theorem pay7_eq : (k0_pay7 (F := Ideal) x y z : EReal)
    = Ideal.div (∑ k : Fin 4096, softplusNeg (score x y k - score x z k)) batch := by
  unfold k0_pay7
  pointwise [pi_at, pj_at]
  rfl

/-- The body's sum of the weighted squares. -/
theorem pay8_eq : (k0_pay8 (F := Ideal) x y z : EReal) = ∑ k : Fin 4096, weight * squares x y z k := by
  unfold k0_pay8 k0_pay2 k0_pay3 k0_pay4
  simp only [shapeCast_self]
  pointwise
  rfl

/-- The kernel's one number. -/
theorem loss_at (j : S1x1.Idx) : k0_pay1 (F := Ideal) (k0_pay7 x y z) (k0_pay8 x y z) j
    = Ideal.div (∑ k : Fin 4096, softplusNeg (score x y k - score x z k)) batch
      + Ideal.div (∑ k : Fin 4096, weight * squares x y z k) batch := by
  rw [← pay7_eq, ← pay8_eq]
  unfold k0_pay1
  pointwise
  rfl

/-! ## The reference's loss -/

/-- The reference's log of the logistic of the margins. -/
def refLogs : FVec Ideal S4096 .f32 :=
  Host.log (Host.divf (broadcastInDim S4096 ![] Cert.ReferenceIdeal.Gen.bcast_S_S4096 (constant S_ .f32 0x3F800000#32))
    (addf (broadcastInDim S4096 ![] Cert.ReferenceIdeal.Gen.bcast_S_S4096 (constant S_ .f32 0x3F800000#32))
      (Host.exp (Host.negf (subf (refScore x y) (refScore x z))))))

/-- The reference's ranking term, one member of the batch. -/
theorem refLogs_at (k : Fin 4096) : refLogs x y z (ix1 k) = logSigmoid (score x y k - score x z k) := by
  unfold refLogs logSigmoid Ideal.logistic
  pointwise [refScore_at]

/-- The reference's scaled squares. -/
def refSquares : FVec Ideal S4096 .f32 :=
  mulf (broadcastInDim S4096 ![] Cert.ReferenceIdeal.Gen.bcast_S_S4096 (constant S_ .f32 0x3C23D70A#32))
    (Host.reduceAdd (addf (addf (mulf x x) (mulf y y)) (mulf z z)) (constant S_ .f32 0x00000000#32)
      Cert.ReferenceIdeal.Gen.reducesTo_S4096x512_S4096_d1 Cert.ReferenceIdeal.Gen.h_S_)

/-- The reference's weighted squares, one member of the batch. -/
theorem refSquares_at (k : Fin 4096) : refSquares x y z (ix1 k) = weight * squares x y z k := by
  unfold refSquares weight squares
  pointwise

/-- The reference's loss. -/
def refLoss : FVec Ideal S_ .f32 :=
  addf (Host.negf (Host.divf (Host.reduceAdd (refLogs x y z) (constant S_ .f32 0x00000000#32)
      Cert.ReferenceIdeal.Gen.reducesTo_S4096_S_d0 Cert.ReferenceIdeal.Gen.h_S_) (constant S_ .f32 0x45800000#32)))
    (Host.divf (Host.reduceAdd (refSquares x y z) (constant S_ .f32 0x00000000#32)
      Cert.ReferenceIdeal.Gen.reducesTo_S4096_S_d0 Cert.ReferenceIdeal.Gen.h_S_) (constant S_ .f32 0x45800000#32))

/-- The reference's loss as two means over the batch. -/
theorem refLoss_at (j : S_.Idx) : refLoss x y z j
    = -Ideal.div (∑ k : Fin 4096, logSigmoid (score x y k - score x z k)) batch
      + Ideal.div (∑ k : Fin 4096, weight * squares x y z k) batch := by
  unfold refLoss batch
  pointwise [refLogs_at, refSquares_at]

/-! ## They agree -/

/-- The batch is not empty. -/
theorem batch_ne_zero : batch ≠ 0 := by
  have h : batch = ((4096 : ℝ) : EReal) := by
    simp [batch, Ideal.ofBits, Ideal.ieee, -EReal.coe_mul]
    norm_num
  rw [h]
  exact_mod_cast (by norm_num : (4096 : ℝ) ≠ 0)

/-- The kernel's number, reshaped, is the reference's loss. -/
theorem loss_eq (h : S1x1.ShapeCasts S_) :
    shapeCast S_ (k0_pay1 (F := Ideal) (k0_pay7 x y z) (k0_pay8 x y z)) h = refLoss x y z := by
  funext j
  rw [refLoss_at, neg_div batch_ne_zero, neg_sum _ _ fun k => logSigmoid_ne_top _]
  simp only [← softplusNeg_eq]
  exact loss_at x y z _

end Cert.Proof

end
-- ==== Proof.KernelRun.lean ====
/- The idealized kernel's run, read off at its three results: from any memory it ends with the reference's two score
   vectors and loss of the batch's rows, the rows Model.lean's of the launch's arguments. -/
module

public import proofs.«01_k».proof.Proof.Region
public import proofs.«01_k».proof.Proof.Readout

@[expose] public section

set_option maxRecDepth 8192

noncomputable section

namespace Cert.Proof

open Idealize.ShloMosaic Idealize.ShloMosaic.StableHlo Idealize.ShloMosaic.TcCoe Idealize.SL.Sem
open Cert.KernelIdeal Cert.KernelIdeal.Gen

/-- The kernel's run: its three results on every device. -/
theorem kernel_run (m : (b : Loc nD τ sig) → Buf (Elt Ideal) b) (ρ : Dev nD → PrngReg) :
    θ_run defs (onTc (τ := τ) (main (F := Ideal))) ⟨m, fun _ => 0, ρ⟩ (fun r => ∀ c : Dev nD,
      r.2.mem ((c.tc : Thread nD τ).loc main_v65_0) = refScore (launchArgs m c).he (launchArgs m c).gi
      ∧ r.2.mem ((c.tc : Thread nD τ).loc main_v65_1) = refScore (launchArgs m c).he (launchArgs m c).gj
      ∧ r.2.mem ((c.tc : Thread nD τ).loc main_v66)
          = refLoss (launchArgs m c).he (launchArgs m c).gi (launchArgs m c).gj) :=
  (θ_run defs _ _).mono (fun r h c => by
    refine ⟨((h c).1 3).trans ((pi_final m c).trans (pi_eq _ _)),
      ((h c).1 4).trans ((pj_final m c).trans (pj_eq _ _)), ?_⟩
    refine ((h c).2 main_v66 (Pipeline.mem_restRefs_of main_v66 (by decide) (by decide))).trans ?_
    rw [loss_reshaped, loss_final]
    exact loss_eq _ _ _ _) (run_main m ρ)

end Cert.Proof

end
-- ==== Proof.RefRows.lean ====
/- The reference's rows are the model's: what its run names for the batch's herb rows and for the two genes' rows
   (Gen/ReferenceIdeal/Run.lean `res_main_v62`, `res_main_v63`, `res_main_v64`) is Model.lean's `he`, `gi`, `gj` of the
   reference's argument arrays, round by round. -/
module

public import proofs.«01_k».proof.Proof.Model
public import proofs.«01_k».proof.Proof.Gen.ReferenceIdeal.Run

@[expose] public section

noncomputable section

namespace Cert.Proof

open Idealize.ShloMosaic Idealize.ShloMosaic.StableHlo Idealize.ShloMosaic.TcCoe Cert.ReferenceIdeal Cert.ReferenceIdeal.Value

variable {F : FTy → Type} [FloatOps F]

/-- The reference's argument arrays, read off its buffers. -/
def refArgs (V : Valuation τ sig (Elt F)) : Args F where
  herb0 := V (Proc.devRef .tc main_arg0)
  gene0 := V (Proc.devRef .tc main_arg1)
  vals := V (Proc.devRef .tc main_arg2)
  dHerb := V (Proc.devRef .tc main_arg3)
  dGene := V (Proc.devRef .tc main_arg4)
  rows := V (Proc.devRef .tc main_arg5)
  cols := V (Proc.devRef .tc main_arg6)
  herb := V (Proc.devRef .tc main_arg7)
  geneI := V (Proc.devRef .tc main_arg8)
  geneJ := V (Proc.devRef .tc main_arg9)

variable (V : Valuation τ sig (Elt F))

/-- Round one, herbs. -/
theorem ref_herb1 : res_main_v9 V = (refArgs V).herb1 := rfl
/-- Round one, genes. -/
theorem ref_gene1 : res_main_v19 V = (refArgs V).gene1 := rfl

/-- Round two, herbs. -/
theorem ref_herb2 : res_main_v29 V = (refArgs V).herb2 := by
  unfold res_main_v29 Args.herb2; rw [ref_herb1, ref_gene1]; rfl
/-- Round two, genes. -/
theorem ref_gene2 : res_main_v39 V = (refArgs V).gene2 := by
  unfold res_main_v39 Args.gene2; rw [ref_herb1, ref_gene1]; rfl

/-- All rounds of the genes, side by side. -/
theorem ref_geneAll : res_main_v61 V = (refArgs V).geneAll := by
  unfold res_main_v61 Args.geneAll Args.gene3; rw [ref_gene1, ref_gene2, ref_herb2]; rfl

/-- The batch's herb rows. -/
theorem ref_he : res_main_v62 V = (refArgs V).he := by
  unfold res_main_v62 Args.he Args.herbAll Args.herb3; rw [ref_herb1, ref_herb2, ref_gene2]; rfl
/-- The batch's first gene rows. -/
theorem ref_gi : res_main_v63 V = (refArgs V).gi := by
  unfold res_main_v63 Args.gi; rw [ref_geneAll]; rfl
/-- The batch's second gene rows. -/
theorem ref_gj : res_main_v64 V = (refArgs V).gj := by
  unfold res_main_v64 Args.gj; rw [ref_geneAll]; rfl

end Cert.Proof

end
-- ==== Proof.ReferenceRun.lean ====
/- The reference's run: its three results are the scores and the loss of the batch's rows, the rows Model.lean's of the
   reference's arguments; and it ends with its arguments unchanged and every counter at zero, having no semaphore. -/
module

public import proofs.«01_k».proof.Proof.RefRows
public import proofs.«01_k».proof.Proof.Readout
public import Idealize.ShloMosaic.Lib.Quiescent

@[expose] public section

set_option maxRecDepth 8192

noncomputable section

namespace Cert.Proof

open Idealize.ShloMosaic Idealize.ShloMosaic.StableHlo Idealize.ShloMosaic.TcCoe Idealize.SL.Sem
open Cert.ReferenceIdeal Cert.ReferenceIdeal.Value

/-- The reference's arguments on a device. -/
def refLaunchArgs (m : (b : Loc nD τ sig) → Buf (Elt Ideal) b) (c : Dev nD) : Args Ideal := refArgs (launchContents m c)

/-- The reference declares no semaphore, so its counters are at zero in every state. -/
theorem ref_counters (s : MemSt nD τ sig (Elt Ideal)) : s.sem = fun _ => 0 := sem_eq_zero_of_no_sems rfl s

/-- The reference's three results, in the model's words. -/
theorem ref_results (V : Valuation τ sig (Elt Ideal)) :
    Host.reduceAdd (mulf (res_main_v62 V) (res_main_v63 V)) (constant S_ .f32 0x00000000#32)
        Cert.ReferenceIdeal.Gen.reducesTo_S4096x512_S4096_d1 Cert.ReferenceIdeal.Gen.h_S_
      = refScore (refArgs V).he (refArgs V).gi
    ∧ Host.reduceAdd (mulf (res_main_v62 V) (res_main_v64 V)) (constant S_ .f32 0x00000000#32)
        Cert.ReferenceIdeal.Gen.reducesTo_S4096x512_S4096_d1 Cert.ReferenceIdeal.Gen.h_S_
      = refScore (refArgs V).he (refArgs V).gj := by
  rw [ref_he, ref_gi, ref_gj]
  exact ⟨rfl, rfl⟩

/-- The reference's run: its three results and its arguments on every device. -/
theorem reference_run (m : (b : Loc nD τ sig) → Buf (Elt Ideal) b) (ρ : Dev nD → PrngReg) :
    θ_run defs (onTc (τ := τ) (main (F := Ideal))) ⟨m, fun _ => 0, ρ⟩ (fun r => ∀ c : Dev nD,
      r.2.mem ((c.tc : Thread nD τ).loc main_v66) = refScore (refLaunchArgs m c).he (refLaunchArgs m c).gi
      ∧ r.2.mem ((c.tc : Thread nD τ).loc main_v68) = refScore (refLaunchArgs m c).he (refLaunchArgs m c).gj
      ∧ r.2.mem ((c.tc : Thread nD τ).loc main_v90)
          = refLoss (refLaunchArgs m c).he (refLaunchArgs m c).gi (refLaunchArgs m c).gj) :=
  (θ_run defs _ _).mono (fun r h c => by
    obtain ⟨h0, h1, h2, -⟩ := h c
    refine ⟨h0.trans (ref_results _).1, h1.trans (ref_results _).2, h2.trans ?_⟩
    rw [ref_he, ref_gi, ref_gj]
    rfl) (run m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceRun
public import Idealize.ShloMosaic.Lib.Claim
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The reference runs, keeps its arguments and ends with every counter at zero. -/
theorem reference_quiescent : Cert.quiescent_ReferenceIdeal := fun m ρ _ =>
  (θ_run Cert.ReferenceIdeal.defs _ _).mono (fun r h => ⟨fun c => (h c).2.2.2, ref_counters _⟩)
    (Cert.ReferenceIdeal.Value.run m ρ)

/-- From equal arguments, the idealized kernel and the reference end with equal results. -/
theorem results_equal : Cert.algebraic_KernelIdeal_ReferenceIdeal := by
  intro m g m' g' _ hargs
  have hA : ∀ c, refLaunchArgs m' c = launchArgs m c := fun c => by
    obtain ⟨h0, h1, h2, h3, h4, h5, h6, h7, h8, h9⟩ := hargs c
    exact Args.ext h0 h1 h2 h3 h4 h5 h6 h7 h8 h9
  refine ⟨fun c => refScore (launchArgs m c).he (launchArgs m c).gi,
    fun c => refScore (launchArgs m c).he (launchArgs m c).gj,
    fun c => refLoss (launchArgs m c).he (launchArgs m c).gi (launchArgs m c).gj, ?_, ?_⟩
  · exact (θ_run Cert.KernelIdeal.defs _ _).mono
      (fun r h c => ⟨(h.1 c).1, (h.1 c).2.1, (h.1 c).2.2, h.2 c⟩)
      (θ_run_and (kernel_run m g) (Cert.KernelIdeal.Gen.unchanged m g))
  · refine (θ_run Cert.ReferenceIdeal.defs _ _).mono (fun r h c => ?_)
      (θ_run_and (reference_run m' g') (Cert.ReferenceIdeal.Value.run m' g'))
    have h1 := h.1 c
    rw [hA c] at h1
    exact ⟨h1.1, h1.2.1, h1.2.2, (h.2 c).2.2.2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent,
  trivial, results_equal⟩

end Cert.Proof

end
